-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative_scale_KernelIdeal [hPre_nonnegative_scale_KernelIdeal : Cert.Pre_nonnegative_scale_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative_scale_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_nonnegative_scale_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative_scale_ReferenceIdeal [hPre_nonnegative_scale_ReferenceIdeal : Cert.Pre_nonnegative_scale_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative_scale_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_nonnegative_scale_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_nonnegative_scale_KernelIdeal [hKernelIdeal : Cert.KernelIdeal.Facts] [hPre_nonnegative_scale_KernelIdeal : Cert.Pre_nonnegative_scale_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative_scale_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_nonnegative_scale_ReferenceIdeal [hReferenceIdeal : Cert.ReferenceIdeal.Facts] [hPre_nonnegative_scale_ReferenceIdeal : Cert.Pre_nonnegative_scale_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative_scale_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_nonnegative_scale_KernelIdeal [hKernelIdeal : Cert.KernelIdeal.Facts] [hReferenceIdeal : Cert.ReferenceIdeal.Facts] [hPre_nonnegative_scale_KernelIdeal : Cert.Pre_nonnegative_scale_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative_scale_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_nonnegative_scale_KernelIdeal : Cert.Pre_nonnegative_scale_KernelIdeal.Facts) (hPre_nonnegative_scale_ReferenceIdeal : Cert.Pre_nonnegative_scale_ReferenceIdeal.Facts),
    quiescent_Kernel (hKernel := hKernel)
    ∧ quiescent_KernelIdeal (hKernelIdeal := hKernelIdeal)
    ∧ quiescent_KernelIdeal_pre_nonnegative_scale_KernelIdeal (hKernelIdeal := hKernelIdeal) (hPre_nonnegative_scale_KernelIdeal := hPre_nonnegative_scale_KernelIdeal)
    ∧ quiescent_ReferenceIdeal (hReferenceIdeal := hReferenceIdeal)
    ∧ quiescent_ReferenceIdeal_pre_nonnegative_scale_ReferenceIdeal (hReferenceIdeal := hReferenceIdeal) (hPre_nonnegative_scale_ReferenceIdeal := hPre_nonnegative_scale_ReferenceIdeal)
    ∧ preserves_Kernel_KernelIdeal
    ∧ algebraic_KernelIdeal_ReferenceIdeal_pre_nonnegative_scale_KernelIdeal (hKernelIdeal := hKernelIdeal) (hReferenceIdeal := hReferenceIdeal) (hPre_nonnegative_scale_KernelIdeal := hPre_nonnegative_scale_KernelIdeal)
-- ==== Pre_nonnegative_scale_KernelIdeal.lean ====
abbrev S4096x1024 : Shape := ⟨2, ![4096, 1024]⟩
abbrev S1024x8192 : Shape := ⟨2, ![1024, 8192]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x1024 .fp8e4m3) (main_arg1 : FVec F S1024x8192 .fp8e4m3) (main_arg2 : FVec F S1 .f32) (main_arg3 : FVec F S1 .f32) : IVec S1 1 × IVec S1 1 :=
  let main_v0 : FVec F S1 .f32 := mulf main_arg2 main_arg3
  let main_cst : FVec F S_ .f32 := constant S_ .f32 0x00000000#32
  let main_v1 : FVec F S1 .f32 := broadcastInDim S1 ![] bcast_S_S1 main_cst
  let main_v2 : IVec S1 1 := cmpf .oge main_v0 main_v1
  let main_cst_0 : FVec F S_ .f32 := constant S_ .f32 0x7F800000#32
  let main_v3 : FVec F S1 .f32 := broadcastInDim S1 ![] bcast_S_S1 main_cst_0
  let main_v4 : IVec S1 1 := cmpf .olt main_v0 main_v3
  (main_v2, main_v4)
-- ==== Pre_nonnegative_scale_ReferenceIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x4096 .fp8e4m3) (main_arg1 : FVec F S4096x8192 .fp8e4m3) (main_arg2 : FVec F S1 .f32) (main_arg3 : FVec F S1 .f32) : IVec S1 1 × IVec S1 1 :=
  let main_v0 : FVec F S1 .f32 := mulf main_arg2 main_arg3
  let main_cst : FVec F S_ .f32 := constant S_ .f32 0x00000000#32
  let main_v1 : FVec F S1 .f32 := broadcastInDim S1 ![] bcast_S_S1 main_cst
  let main_v2 : IVec S1 1 := cmpf .oge main_v0 main_v1
  let main_cst_0 : FVec F S_ .f32 := constant S_ .f32 0x7F800000#32
  let main_v3 : FVec F S1 .f32 := broadcastInDim S1 ![] bcast_S_S1 main_cst_0
  let main_v4 : IVec S1 1 := cmpf .olt main_v0 main_v3
  (main_v2, main_v4)
-- ==== Kernel.lean ====
abbrev S4096x1024 : Shape := ⟨2, ![4096, 1024]⟩
abbrev S1024x8192 : Shape := ⟨2, ![1024, 8192]⟩
abbrev S1 : Shape := ⟨1, ![1]⟩
abbrev S4096x8192 : Shape := ⟨2, ![4096, 8192]⟩
abbrev S512x1024 : Shape := ⟨2, ![512, 1024]⟩
abbrev S1024x2048 : Shape := ⟨2, ![1024, 2048]⟩
abbrev S512x2048 : Shape := ⟨2, ![512, 2048]⟩
abbrev S2x1024x2048 : Shape := ⟨3, ![2, 1024, 2048]⟩
abbrev S2 : Shape := ⟨1, ![2]⟩
abbrev S_ : Shape := ⟨0, ![]⟩
abbrev S1x1024x2048 : Shape := ⟨3, ![1, 1024, 2048]⟩

abbrev nBuf : Space → Nat
  | .hbm => 21
  | .vmem => 12
  | .smem => 2
  | _ => 0

abbrev bufTy : (tb : Table) → Fin (tcTables nBuf tb) → BufTy
  | .hbm, ⟨0, _⟩ => ⟨S4096x1024, .fp8e4m3⟩
  | .hbm, ⟨1, _⟩ => ⟨S1024x8192, .fp8e4m3⟩
  | .hbm, ⟨2, _⟩ => ⟨S1, .f32⟩
  | .hbm, ⟨3, _⟩ => ⟨S1, .f32⟩
  | .hbm, ⟨4, _⟩ => ⟨S4096x8192, .bf16⟩
  | .hbm, ⟨5, _⟩ => ⟨S4096x8192, .bf16⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1024x8192, .bf16⟩
  | .local _ .vmem, ⟨0, _⟩ => ⟨S512x1024, .fp8e4m3⟩
  | .local _ .vmem, ⟨1, _⟩ => ⟨S512x1024, .fp8e4m3⟩
  | .local _ .vmem, ⟨2, _⟩ => ⟨S1024x2048, .fp8e4m3⟩
  | .local _ .vmem, ⟨3, _⟩ => ⟨S1024x2048, .fp8e4m3⟩
  | .local _ .vmem, ⟨4, _⟩ => ⟨S512x2048, .bf16⟩
  | .local _ .vmem, ⟨5, _⟩ => ⟨S512x2048, .bf16⟩
  | .local _ .vmem, ⟨6, _⟩ => ⟨S1024x2048, .bf16⟩
  | .local _ .vmem, ⟨7, _⟩ => ⟨S1024x2048, .bf16⟩
  | .local _ .vmem, ⟨8, _⟩ => ⟨S2x1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S2x1024x2048, .bf16⟩
  | .local _ .smem, ⟨0, _⟩ => ⟨S1, .f32⟩
  | .local _ .smem, ⟨1, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc1_scratch0 : Ref sig .tc := ⟨.vmem, 6, rfl⟩
abbrev cc1_scratch1 : Ref sig .tc := ⟨.vmem, 7, rfl⟩
abbrev cc1_scratch2 : Ref sig .tc := ⟨.vmem, 8, rfl⟩
abbrev cc1_scratch3 : Ref sig .tc := ⟨.vmem, 9, rfl⟩
abbrev cc1_scratch4 : Ref sig .tc := ⟨.vmem, 10, rfl⟩
abbrev cc1_scratch5 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev barrier0 : Sem sig := 0

abbrev nD : Nat := 4
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k1_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k1_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v13 : BitVec 32 := Scalar.muli v2 c1024_i32
  let c0_i32_11 : BitVec 32 := 0#32
  ![v13.toNat, 0]
def k1_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_10 : BitVec 32 := 1024#32
  let v14 : BitVec 32 := Scalar.muli v2 c1024_i32_10
  let c4096_i32 : BitVec 32 := 4096#32
  ![v14.toNat, 4096]
def k1_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_17 : BitVec 32 := 1#32
  let v19 : BitVec 32 := Scalar.muli v7 c1_i32_17
  let v20 : BitVec 32 := Scalar.addi c0_i32_18 v19
  v20.toNat
def k1_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_24 : BitVec 32 := 1#32
  let v27 : BitVec 32 := Scalar.muli v5 c1_i32_24
  let v28 : BitVec 32 := Scalar.addi c0_i32_25 v27
  v28.toNat
def k1_off3 (d0 : Dev nD) (c0_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v35 : BitVec 32 := Scalar.subi v2 c0_i32_28
  let c1_i32_29 : BitVec 32 := 1#32
  let v36 : BitVec 32 := Scalar.subi v35 c1_i32_29
  let c8_i32 : BitVec 32 := 8#32
  let v37 : BitVec 32 := Scalar.addi v36 c8_i32
  let c4_i32_30 : BitVec 32 := 4#32
  let v38 : BitVec 32 := Scalar.remsi v37 c4_i32_30
  let c1024_i32_34 : BitVec 32 := 1024#32
  let v42 : BitVec 32 := Scalar.muli v38 c1024_i32_34
  let c0_i32_36 : BitVec 32 := 0#32
  ![v42.toNat, 0]
def k1_off4 (d0 : Dev nD) (c0_i32_31 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v39 : BitVec 32 := Scalar.addi v2 c0_i32_31
  let c1_i32_32 : BitVec 32 := 1#32
  let v40 : BitVec 32 := Scalar.addi v39 c1_i32_32
  let c4_i32_33 : BitVec 32 := 4#32
  let v41 : BitVec 32 := Scalar.remsi v40 c4_i32_33
  let c1024_i32_35 : BitVec 32 := 1024#32
  let v43 : BitVec 32 := Scalar.muli v41 c1024_i32_35
  let c4096_i32_37 : BitVec 32 := 4096#32
  ![v43.toNat, 4096]
def k1_dev5 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_82 : BitVec 32 := 1#32
  let v82 : BitVec 32 := Scalar.muli v7 c1_i32_82
  let v83 : BitVec 32 := Scalar.addi c0_i32_83 v82
  v83.toNat
def k1_dev6 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_89 : BitVec 32 := 1#32
  let v90 : BitVec 32 := Scalar.muli v5 c1_i32_89
  let v91 : BitVec 32 := Scalar.addi c0_i32_90 v90
  v91.toNat
def k1_dev7 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_148 : BitVec 32 := 1#32
  let v145 : BitVec 32 := Scalar.muli v7 c1_i32_148
  let v146 : BitVec 32 := Scalar.addi c0_i32_149 v145
  v146.toNat
def k1_dev8 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_155 : BitVec 32 := 1#32
  let v153 : BitVec 32 := Scalar.muli v5 c1_i32_155
  let v154 : BitVec 32 := Scalar.addi c0_i32_156 v153
  v154.toNat
def k1_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_212 : BitVec 32 := 1#32
  let v208 : BitVec 32 := Scalar.addi v2 c1_i32_212
  let c4_i32_213 : BitVec 32 := 4#32
  let v209 : BitVec 32 := Scalar.remsi v208 c4_i32_213
  let c1024_i32_217 : BitVec 32 := 1024#32
  let v213 : BitVec 32 := Scalar.muli v209 c1024_i32_217
  let c0_i32_219 : BitVec 32 := 0#32
  ![v213.toNat, 0]
def k1_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_214 : BitVec 32 := 4#32
  let v210 : BitVec 32 := Scalar.addi v2 c4_i32_214
  let c1_i32_215 : BitVec 32 := 1#32
  let v211 : BitVec 32 := Scalar.subi v210 c1_i32_215
  let c4_i32_216 : BitVec 32 := 4#32
  let v212 : BitVec 32 := Scalar.remsi v211 c4_i32_216
  let c1024_i32_218 : BitVec 32 := 1024#32
  let v214 : BitVec 32 := Scalar.muli v212 c1024_i32_218
  let c4096_i32_220 : BitVec 32 := 4096#32
  ![v214.toNat, 4096]
def k1_dev9 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_226 : BitVec 32 := 1#32
  let v219 : BitVec 32 := Scalar.muli v7 c1_i32_226
  let v220 : BitVec 32 := Scalar.addi c0_i32_227 v219
  v220.toNat
def k1_dev10 (d0 : Dev nD) : Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_233 : BitVec 32 := 1#32
  let v227 : BitVec 32 := Scalar.muli v5 c1_i32_233
  let v228 : BitVec 32 := Scalar.addi c0_i32_234 v227
  v228.toNat
def k1_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_263 : BitVec 32 := 0#32
  let v255 : BitVec 32 := Scalar.subi v2 c0_i32_263
  let c8_i32_264 : BitVec 32 := 8#32
  let v256 : BitVec 32 := Scalar.addi v255 c8_i32_264
  let c4_i32_265 : BitVec 32 := 4#32
  let v257 : BitVec 32 := Scalar.remsi v256 c4_i32_265
  let c1024_i32_268 : BitVec 32 := 1024#32
  let v260 : BitVec 32 := Scalar.muli v257 c1024_i32_268
  let c0_i32_271 : BitVec 32 := 0#32
  ![v260.toNat, 0]
def k1_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_266 : BitVec 32 := 0#32
  let v258 : BitVec 32 := Scalar.addi v2 c0_i32_266
  let c4_i32_267 : BitVec 32 := 4#32
  let v259 : BitVec 32 := Scalar.remsi v258 c4_i32_267
  let c1024_i32_269 : BitVec 32 := 1024#32
  let v261 : BitVec 32 := Scalar.muli v259 c1024_i32_269
  let c4096_i32_275 : BitVec 32 := 4096#32
  ![v261.toNat, 4096]
def k1_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_286 : BitVec 32 := 1024#32
  let v274 : BitVec 32 := Scalar.muli v2 c1024_i32_286
  let c2048_i32 : BitVec 32 := 2048#32
  ![v274.toNat, 2048]
def k1_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_287 : BitVec 32 := 1024#32
  let v275 : BitVec 32 := Scalar.muli v2 c1024_i32_287
  let c6144_i32 : BitVec 32 := 6144#32
  ![v275.toNat, 6144]
def k1_dev11 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_293 : BitVec 32 := 1#32
  let v280 : BitVec 32 := Scalar.muli v7 c1_i32_293
  let v281 : BitVec 32 := Scalar.addi c0_i32_294 v280
  v281.toNat
def k1_dev12 (d0 : Dev nD) : Nat :=
  let c0_i32_301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_300 : BitVec 32 := 1#32
  let v288 : BitVec 32 := Scalar.muli v5 c1_i32_300
  let v289 : BitVec 32 := Scalar.addi c0_i32_301 v288
  v289.toNat
def k1_off11 (d0 : Dev nD) (c0_i32_304 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v296 : BitVec 32 := Scalar.subi v2 c0_i32_304
  let c1_i32_305 : BitVec 32 := 1#32
  let v297 : BitVec 32 := Scalar.subi v296 c1_i32_305
  let c8_i32_306 : BitVec 32 := 8#32
  let v298 : BitVec 32 := Scalar.addi v297 c8_i32_306
  let c4_i32_307 : BitVec 32 := 4#32
  let v299 : BitVec 32 := Scalar.remsi v298 c4_i32_307
  let c1024_i32_311 : BitVec 32 := 1024#32
  let v303 : BitVec 32 := Scalar.muli v299 c1024_i32_311
  let c2048_i32_313 : BitVec 32 := 2048#32
  ![v303.toNat, 2048]
def k1_off12 (d0 : Dev nD) (c0_i32_308 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v300 : BitVec 32 := Scalar.addi v2 c0_i32_308
  let c1_i32_309 : BitVec 32 := 1#32
  let v301 : BitVec 32 := Scalar.addi v300 c1_i32_309
  let c4_i32_310 : BitVec 32 := 4#32
  let v302 : BitVec 32 := Scalar.remsi v301 c4_i32_310
  let c1024_i32_312 : BitVec 32 := 1024#32
  let v304 : BitVec 32 := Scalar.muli v302 c1024_i32_312
  let c6144_i32_314 : BitVec 32 := 6144#32
  ![v304.toNat, 6144]
def k1_dev13 (d0 : Dev nD) : Nat :=
  let c0_i32_361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_360 : BitVec 32 := 1#32
  let v343 : BitVec 32 := Scalar.muli v7 c1_i32_360
  let v344 : BitVec 32 := Scalar.addi c0_i32_361 v343
  v344.toNat
def k1_dev14 (d0 : Dev nD) : Nat :=
  let c0_i32_368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_367 : BitVec 32 := 1#32
  let v351 : BitVec 32 := Scalar.muli v5 c1_i32_367
  let v352 : BitVec 32 := Scalar.addi c0_i32_368 v351
  v352.toNat
def k1_dev15 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_427 : BitVec 32 := 1#32
  let v406 : BitVec 32 := Scalar.muli v7 c1_i32_427
  let v407 : BitVec 32 := Scalar.addi c0_i32_428 v406
  v407.toNat
def k1_dev16 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_434 : BitVec 32 := 1#32
  let v414 : BitVec 32 := Scalar.muli v5 c1_i32_434
  let v415 : BitVec 32 := Scalar.addi c0_i32_435 v414
  v415.toNat
def k1_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_491 : BitVec 32 := 1#32
  let v469 : BitVec 32 := Scalar.addi v2 c1_i32_491
  let c4_i32_492 : BitVec 32 := 4#32
  let v470 : BitVec 32 := Scalar.remsi v469 c4_i32_492
  let c1024_i32_496 : BitVec 32 := 1024#32
  let v474 : BitVec 32 := Scalar.muli v470 c1024_i32_496
  let c2048_i32_498 : BitVec 32 := 2048#32
  ![v474.toNat, 2048]
def k1_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_493 : BitVec 32 := 4#32
  let v471 : BitVec 32 := Scalar.addi v2 c4_i32_493
  let c1_i32_494 : BitVec 32 := 1#32
  let v472 : BitVec 32 := Scalar.subi v471 c1_i32_494
  let c4_i32_495 : BitVec 32 := 4#32
  let v473 : BitVec 32 := Scalar.remsi v472 c4_i32_495
  let c1024_i32_497 : BitVec 32 := 1024#32
  let v475 : BitVec 32 := Scalar.muli v473 c1024_i32_497
  let c6144_i32_499 : BitVec 32 := 6144#32
  ![v475.toNat, 6144]
def k1_dev17 (d0 : Dev nD) : Nat :=
  let c0_i32_506 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_505 : BitVec 32 := 1#32
  let v480 : BitVec 32 := Scalar.muli v7 c1_i32_505
  let v481 : BitVec 32 := Scalar.addi c0_i32_506 v480
  v481.toNat
def k1_dev18 (d0 : Dev nD) : Nat :=
  let c0_i32_513 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_512 : BitVec 32 := 1#32
  let v488 : BitVec 32 := Scalar.muli v5 c1_i32_512
  let v489 : BitVec 32 := Scalar.addi c0_i32_513 v488
  v489.toNat
def k1_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_542 : BitVec 32 := 0#32
  let v516 : BitVec 32 := Scalar.subi v2 c0_i32_542
  let c8_i32_543 : BitVec 32 := 8#32
  let v517 : BitVec 32 := Scalar.addi v516 c8_i32_543
  let c4_i32_544 : BitVec 32 := 4#32
  let v518 : BitVec 32 := Scalar.remsi v517 c4_i32_544
  let c1024_i32_547 : BitVec 32 := 1024#32
  let v521 : BitVec 32 := Scalar.muli v518 c1024_i32_547
  let c2048_i32_550 : BitVec 32 := 2048#32
  ![v521.toNat, 2048]
def k1_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_545 : BitVec 32 := 0#32
  let v519 : BitVec 32 := Scalar.addi v2 c0_i32_545
  let c4_i32_546 : BitVec 32 := 4#32
  let v520 : BitVec 32 := Scalar.remsi v519 c4_i32_546
  let c1024_i32_548 : BitVec 32 := 1024#32
  let v522 : BitVec 32 := Scalar.muli v520 c1024_i32_548
  let c6144_i32_554 : BitVec 32 := 6144#32
  ![v522.toNat, 6144]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .bf16⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .bf16⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.RingProg.lean ====
/- The ring kernel's program, written with the two directions as a parameter: direction `0` sends to the right neighbour
   and `1` to the left one. Every step of the printed body is one of a few pieces below, and the body is the pieces in
   sequence (`ring_eq`). The devices and the offsets the body computes as words are named by a device and by a block of
   the array. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.Ring

open Idealize.ShloMosaic Idealize.ShloMosaic.TcCoe
open Idealize.SL.Sem
open Cert.KernelIdeal Cert.KernelIdeal.Gen

variable {F : FTy → Type} [FloatOps F]

/-! ## Buffers and semaphores of a direction -/

abbrev accR : Fin 2 → Ref sig .tc := fun | 0 => cc1_scratch0 | 1 => cc1_scratch3
abbrev loadR : Fin 2 → Ref sig .tc := fun | 0 => cc1_scratch1 | 1 => cc1_scratch4
abbrev commR : Fin 2 → Ref sig .tc := fun | 0 => cc1_scratch2 | 1 => cc1_scratch5

/-- The partial product, and the array the sums are gathered in. -/
abbrev pM : Memref sig .tc .hbm S4096x8192 .bf16 := Memref.whole main_v1
abbrev oM : Memref sig .tc .hbm S4096x8192 .bf16 := Memref.whole main_v2
/-- The running sum of a direction, and the buffer its next summand is loaded into. -/
def accM : Fin 2 → Memref sig .tc .vmem S1024x2048 .bf16 := fun | 0 => Memref.whole cc1_scratch0 | 1 => Memref.whole cc1_scratch3
def loadM : Fin 2 → Memref sig .tc .vmem S1024x2048 .bf16 := fun | 0 => Memref.whole cc1_scratch1 | 1 => Memref.whole cc1_scratch4
/-- The two slots a direction receives in. -/
def commB : Fin 2 → Memref sig .tc .vmem S2x1024x2048 .bf16 := fun | 0 => Memref.whole cc1_scratch2 | 1 => Memref.whole cc1_scratch5
/-- The rectangle of one slot. -/
def slotR : Fin 2 → Rect S2x1024x2048 := fun
  | 0 => Rect.unit (s := S2x1024x2048) ![0, 0, 0] S1x1024x2048.size inb_S2x1024x2048_S1x1024x2048_0_0_0
  | 1 => Rect.unit (s := S2x1024x2048) ![1, 0, 0] S1x1024x2048.size inb_S2x1024x2048_S1x1024x2048_1_0_0
def slotM (k : Fin 2) : Fin 2 → Memref sig .tc .vmem S1024x2048 .bf16 := fun
  | 0 => ((commB k).slice (Rect.unit (s := S2x1024x2048) ![0, 0, 0] S1x1024x2048.size inb_S2x1024x2048_S1x1024x2048_0_0_0) (fun _ => rfl)).squeeze S1024x2048 squeezes_S1x1024x2048_S1024x2048
  | 1 => ((commB k).slice (Rect.unit (s := S2x1024x2048) ![1, 0, 0] S1x1024x2048.size inb_S2x1024x2048_S1x1024x2048_1_0_0) (fun _ => rfl)).squeeze S1024x2048 squeezes_S1x1024x2048_S1024x2048

theorem accM_whole : ∀ k, (accM k).IsWhole := fun | 0 => Memref.isWhole_whole _ | 1 => Memref.isWhole_whole _
theorem loadM_whole : ∀ k, (loadM k).IsWhole := fun | 0 => Memref.isWhole_whole _ | 1 => Memref.isWhole_whole _
theorem commB_whole : ∀ k, (commB k).IsWhole := fun | 0 => Memref.isWhole_whole _ | 1 => Memref.isWhole_whole _
theorem slotM_words (k : Fin 2) : ∀ s, (slotM k s).view.WordExact := fun
  | 0 => ((commB_whole k).wordExact_slice rfl _ wordsbf16_S2x1024x2048_S1x1024x2048_0_0_0).reshape _ _
  | 1 => ((commB_whole k).wordExact_slice rfl _ wordsbf16_S2x1024x2048_S1x1024x2048_1_0_0).reshape _ _

/-- Semaphore `s` of an array of two. -/
def semAt (a : DmaSems sig S2) : Fin 2 → DmaSem sig := fun
  | 0 => ((a.slice (Rect.unit (s := S2) ![0] S1.size inb_S2_S1_0)).squeeze S_ squeezes_S1_S_).sem
  | 1 => ((a.slice (Rect.unit (s := S2) ![1] S1.size inb_S2_S1_1)).squeeze S_ squeezes_S1_S_).sem
/-- The send and receive semaphores of a slot; the semaphores of the loads and the stores. -/
def sndS : Fin 2 → Fin 2 → DmaSem sig := fun | 0 => semAt cc1_scratch6 | 1 => semAt cc1_scratch8
def rcvS : Fin 2 → Fin 2 → DmaSem sig := fun | 0 => semAt cc1_scratch7 | 1 => semAt cc1_scratch9
def ldS : Fin 2 → DmaSem sig := fun | 0 => cc1_scratch10.sem | 1 => cc1_scratch11.sem
def stS : Fin 2 → DmaSem sig := fun | 0 => cc1_scratch12.sem | 1 => cc1_scratch13.sem

/-! ## Neighbours and blocks -/

/-- Where a direction sends to; where it receives from. -/
def dst : Fin 2 → Dev nD → Dev nD := fun | 0, c => c + 1 | 1, c => c + 3
def src : Fin 2 → Dev nD → Dev nD := fun | 0, c => c + 3 | 1, c => c + 1

/-- A block of the array a transfer moves: its offsets, inside the array and of whole words. -/
structure Blk where
  off : Fin 2 → Nat
  inb : ∀ a, off a + S1024x2048.size a ≤ S4096x8192.size a
  words : (Rect.unit (s := S4096x8192) off S1024x2048.size inb).WholeWords (EltTy.packing .bf16)

theorem Blk.ext' {b b' : Blk} (h : b.off = b'.off) : b = b' := by
  cases b; cases b'; cases h; rfl

/-- The column block a direction works on in a pass over half of the columns. -/
def colOf (k q : Fin 2) : Fin 4 := ⟨2 * k.val + q.val, by omega⟩

/-- Row block `r`, column block of direction `k` in pass `q`. -/
def blk (k q : Fin 2) (r : Dev nD) : Blk :=
  match k, q with
  | 0, 0 => ⟨k1_off1 r, k1_off1_inb r, k1_off1_wordsbf16 r⟩
  | 1, 0 => ⟨k1_off2 r, k1_off2_inb r, k1_off2_wordsbf16 r⟩
  | 0, 1 => ⟨k1_off9 r, k1_off9_inb r, k1_off9_wordsbf16 r⟩
  | 1, 1 => ⟨k1_off10 r, k1_off10_inb r, k1_off10_wordsbf16 r⟩

theorem blk_off : ∀ (k q : Fin 2) (r : Dev nD), (blk k q r).off = ![1024 * r.val, 2048 * (colOf k q).val] := by decide

/-- A block of an array. -/
def cut (M : Memref sig .tc .hbm S4096x8192 .bf16) (b : Blk) : Memref sig .tc .hbm S1024x2048 .bf16 :=
  M.slice (Rect.unit (s := S4096x8192) b.off S1024x2048.size b.inb) (fun _ => rfl)

theorem cut_words (M : Memref sig .tc .hbm S4096x8192 .bf16) (h : M.IsWhole) (b : Blk) : (cut M b).view.WordExact :=
  h.wordExact_slice rfl _ b.words

/-! ## The pieces -/

abbrev P (F : FTy → Type) [FloatOps F] := Prog (TpuEff nD τ sig (Elt F) Λ₀ .tc) PUnit

/-- Send the running sum to device `e`'s slot `s`. -/
def pSend (k s : Fin 2) (e : Dev nD) : P F :=
  Prog.lift (.enqueueDma (accM k) (.remote (Dev.tc e) (slotM k s) (.dma (sndS k s))) (.dma (rcvS k s)) (accM_whole k).wordExact (slotM_words k s) ⟨⟨rfl, Or.inl rfl⟩, trivial⟩)
/-- Wait until the sum is sent; until the neighbour's has arrived. -/
def pSent (k s : Fin 2) : P F := Prog.lift (.waitDma2 (sndS k s) (slotM k s) (accM k) (slotM_words k s) (accM_whole k).wordExact)
def pRecv (k s : Fin 2) : P F := Prog.lift (.waitDma2 (rcvS k s) (accM k) (slotM k s) (accM_whole k).wordExact (slotM_words k s))
/-- Load a block of the partial product, and wait for it. -/
def pLd (k : Fin 2) (M : Memref sig .tc .vmem S1024x2048 .bf16) (hM : M.view.WordExact) (b : Blk) : P F :=
  Prog.lift (.enqueueDma (cut pM b) (.here M) (.dma (ldS k)) (cut_words pM (Memref.isWhole_whole _) b) hM ⟨Or.inl rfl, trivial⟩)
def pLdW (k : Fin 2) (M : Memref sig .tc .vmem S1024x2048 .bf16) (hM : M.view.WordExact) (b : Blk) : P F :=
  Prog.lift (.waitDma2 (ldS k) (cut pM b) M (cut_words pM (Memref.isWhole_whole _) b) hM)
/-- Store a block of the result, and wait for it. -/
def pSt (k : Fin 2) (M : Memref sig .tc .vmem S1024x2048 .bf16) (hM : M.view.WordExact) (b : Blk) : P F :=
  Prog.lift (.enqueueDma M (.here (cut oM b)) (.dma (stS k)) hM (cut_words oM (Memref.isWhole_whole _) b) ⟨Or.inl rfl, trivial⟩)
def pStW (k : Fin 2) (M : Memref sig .tc .vmem S1024x2048 .bf16) (hM : M.view.WordExact) (b : Blk) : P F :=
  Prog.lift (.waitDma2 (stS k) M (cut oM b) hM (cut_words oM (Memref.isWhole_whole _) b))

/-- The sum of what was loaded and what arrived. -/
def addV (a : Vec F S1024x2048 .bf16) (b : Vec F S1x1024x2048 .bf16) : FVec F S1024x2048 .bf16 :=
  shapeCast S1024x2048 (addf (φ := .bf16) a (shapeCast S1024x2048 b shapeCasts_S1x1024x2048_S1024x2048)) shapeCasts_S1024x2048_S1024x2048

/-- A whole block of scratch. -/
abbrev wholeR : Rect S1024x2048 := Rect.unit (s := S1024x2048) ![0, 0] S1024x2048.size inb_S1024x2048_S1024x2048_0_0

/-- Read a slot. -/
def pSlot (k : Fin 2) : Fin 2 → Prog (TpuEff nD τ sig (Elt F) Λ₀ .tc) (Vec F S1x1024x2048 .bf16) := fun
  | 0 => Prog.lift (.load (commB k) (Rect.unit (s := S2x1024x2048) ![0, 0, 0] S1x1024x2048.size inb_S2x1024x2048_S1x1024x2048_0_0_0).toLoadRect (View.loadsAt_vmem h_S1x1024x2048))
  | 1 => Prog.lift (.load (commB k) (Rect.unit (s := S2x1024x2048) ![1, 0, 0] S1x1024x2048.size inb_S2x1024x2048_S1x1024x2048_1_0_0).toLoadRect (View.loadsAt_vmem h_S1x1024x2048))
/-- The new running sum: the loaded block plus the arrived one. -/
def pAdd (k s : Fin 2) : P F := do
  let a : Vec F S1024x2048 .bf16 ← Prog.lift (.load (loadM k) wholeR.toLoadRect (View.loadsAt_vmem h_S1024x2048))
  let b : Vec F S1x1024x2048 .bf16 ← pSlot k s
  let _d : Vec F S1024x2048 .bf16 ← Prog.lift (.load (accM k) wholeR.toLoadRect (View.loadsAt_vmem h_S1024x2048))
  Prog.lift (.store (accM k) wholeR (addV a b) Finset.univ (View.stores_vmem h_S1024x2048 ((accM_whole k).storeExact_slice rfl _ packedbf16_S1024x2048_S1024x2048_0_0) (fun _ => rfl)) (.inl rfl))

/-! ## The steps -/

abbrev acw (k : Fin 2) := (accM_whole k).wordExact
abbrev ldw (k : Fin 2) := (loadM_whole k).wordExact

/-- The barrier: one unit to either neighbour, and two awaited. -/
def pBar (e e' : Dev nD) : P F := do
  semSignalWord e (SemArray.scalar (sig.barrier 0 rfl) : Sems sig S_).sem 1#32
  semSignalWord e' (SemArray.scalar (sig.barrier 0 rfl) : Sems sig S_).sem 1#32
  semWaitWord (SemArray.scalar (sig.barrier 0 rfl) : Sems sig S_).sem 2#32

/-- The first summands. -/
def pFirst (b b' : Blk) : P F := do
  pLd 0 (accM 0) (acw 0) b; pLd 1 (accM 1) (acw 1) b'; pLdW 0 (accM 0) (acw 0) b; pLdW 1 (accM 1) (acw 1) b'
/-- One step of the reduction. -/
def pRs (s : Fin 2) (e e' : Dev nD) (b b' : Blk) : P F := do
  pSend 0 s e; pSend 1 s e'
  pLd 0 (loadM 0) (ldw 0) b; pLd 1 (loadM 1) (ldw 1) b'
  pSent 0 s; pRecv 0 s; pSent 1 s; pRecv 1 s
  pLdW 0 (loadM 0) (ldw 0) b; pLdW 1 (loadM 1) (ldw 1) b'
  pAdd 0 s; pAdd 1 s
/-- The finished sums stored. -/
def pStore (M M' : Memref sig .tc .vmem S1024x2048 .bf16) (h : M.view.WordExact) (h' : M'.view.WordExact) (b b' : Blk) : P F := do
  pSt 0 M h b; pSt 1 M' h' b'; pStW 0 M h b; pStW 1 M' h' b'
/-- The step of the gathering. -/
def pAg (s : Fin 2) (e e' : Dev nD) : P F := do
  pSend 0 s e; pSend 1 s e'
  pSent 0 s; pRecv 0 s; pSent 1 s; pRecv 1 s

/-- One pass over half of the columns. -/
def pPass (e1 e1' e2 e2' e3 e3' e4 e4' : Dev nD) (b0 b0' b1 b1' b2 b2' b3 b3' b4 b4' b5 b5' : Blk) : P F := do
  pFirst b0 b0'
  pRs 0 e1 e1' b1 b1'
  pRs 1 e2 e2' b2 b2'
  pRs 0 e3 e3' b3 b3'
  pStore (accM 0) (accM 1) (acw 0) (acw 1) b4 b4'
  pAg 1 e4 e4'
  pStore (slotM 0 1) (slotM 1 1) (slotM_words 0 1) (slotM_words 1 1) b5 b5'

/-- The devices and blocks as the body computes them. -/
def ringRaw : P F := do
  let d : Dev nD ← Prog.lift .deviceId
  pBar ⟨k1_dev1 d, k1_dev1_lt d⟩ ⟨k1_dev2 d, k1_dev2_lt d⟩
  pPass ⟨k1_dev3 d, k1_dev3_lt d⟩ ⟨k1_dev4 d, k1_dev4_lt d⟩ ⟨k1_dev5 d, k1_dev5_lt d⟩ ⟨k1_dev6 d, k1_dev6_lt d⟩
    ⟨k1_dev7 d, k1_dev7_lt d⟩ ⟨k1_dev8 d, k1_dev8_lt d⟩ ⟨k1_dev9 d, k1_dev9_lt d⟩ ⟨k1_dev10 d, k1_dev10_lt d⟩
    ⟨k1_off1 d, k1_off1_inb d, k1_off1_wordsbf16 d⟩ ⟨k1_off2 d, k1_off2_inb d, k1_off2_wordsbf16 d⟩
    ⟨k1_off3 d 0#32, k1_off3_inb d 0, k1_off3_wordsbf16 d 0⟩ ⟨k1_off4 d 0#32, k1_off4_inb d 0, k1_off4_wordsbf16 d 0⟩
    ⟨k1_off3 d 1#32, k1_off3_inb d 1, k1_off3_wordsbf16 d 1⟩ ⟨k1_off4 d 1#32, k1_off4_inb d 1, k1_off4_wordsbf16 d 1⟩
    ⟨k1_off3 d 2#32, k1_off3_inb d 2, k1_off3_wordsbf16 d 2⟩ ⟨k1_off4 d 2#32, k1_off4_inb d 2, k1_off4_wordsbf16 d 2⟩
    ⟨k1_off5 d, k1_off5_inb d, k1_off5_wordsbf16 d⟩ ⟨k1_off6 d, k1_off6_inb d, k1_off6_wordsbf16 d⟩
    ⟨k1_off7 d, k1_off7_inb d, k1_off7_wordsbf16 d⟩ ⟨k1_off8 d, k1_off8_inb d, k1_off8_wordsbf16 d⟩
  pPass ⟨k1_dev11 d, k1_dev11_lt d⟩ ⟨k1_dev12 d, k1_dev12_lt d⟩ ⟨k1_dev13 d, k1_dev13_lt d⟩ ⟨k1_dev14 d, k1_dev14_lt d⟩
    ⟨k1_dev15 d, k1_dev15_lt d⟩ ⟨k1_dev16 d, k1_dev16_lt d⟩ ⟨k1_dev17 d, k1_dev17_lt d⟩ ⟨k1_dev18 d, k1_dev18_lt d⟩
    ⟨k1_off9 d, k1_off9_inb d, k1_off9_wordsbf16 d⟩ ⟨k1_off10 d, k1_off10_inb d, k1_off10_wordsbf16 d⟩
    ⟨k1_off11 d 0#32, k1_off11_inb d 0, k1_off11_wordsbf16 d 0⟩ ⟨k1_off12 d 0#32, k1_off12_inb d 0, k1_off12_wordsbf16 d 0⟩
    ⟨k1_off11 d 1#32, k1_off11_inb d 1, k1_off11_wordsbf16 d 1⟩ ⟨k1_off12 d 1#32, k1_off12_inb d 1, k1_off12_wordsbf16 d 1⟩
    ⟨k1_off11 d 2#32, k1_off11_inb d 2, k1_off11_wordsbf16 d 2⟩ ⟨k1_off12 d 2#32, k1_off12_inb d 2, k1_off12_wordsbf16 d 2⟩
    ⟨k1_off13 d, k1_off13_inb d, k1_off13_wordsbf16 d⟩ ⟨k1_off14 d, k1_off14_inb d, k1_off14_wordsbf16 d⟩
    ⟨k1_off15 d, k1_off15_inb d, k1_off15_wordsbf16 d⟩ ⟨k1_off16 d, k1_off16_inb d, k1_off16_wordsbf16 d⟩

set_option maxRecDepth 65536 in
theorem body_raw (t : Fin cfg1.N) : bodyAt1 (F := F) t = ringRaw := by chain_rfl

/-- One pass on device `d`: every send goes to the direction's neighbour, step `n` loads the row block `n + 1` steps
    back along the direction. -/
def pPassAt (d : Dev nD) (q : Fin 2) : P F :=
  pPass (dst 0 d) (dst 1 d) (dst 0 d) (dst 1 d) (dst 0 d) (dst 1 d) (dst 0 d) (dst 1 d)
    (blk 0 q d) (blk 1 q d)
    (blk 0 q (src 0 d)) (blk 1 q (src 1 d))
    (blk 0 q (src 0 (src 0 d))) (blk 1 q (src 1 (src 1 d)))
    (blk 0 q (dst 0 d)) (blk 1 q (dst 1 d))
    (blk 0 q (dst 0 d)) (blk 1 q (dst 1 d))
    (blk 0 q d) (blk 1 q d)

/-- The ring kernel's program. -/
def ring : P F := do
  let d : Dev nD ← Prog.lift .deviceId
  pBar (dst 1 d) (dst 0 d)
  pPassAt d 0
  pPassAt d 1

theorem dev_eq : ∀ d : Dev nD,
    (k1_dev1 d = (dst 1 d).val ∧ k1_dev2 d = (dst 0 d).val ∧ k1_dev3 d = (dst 0 d).val ∧ k1_dev4 d = (dst 1 d).val)
    ∧ (k1_dev5 d = (dst 0 d).val ∧ k1_dev6 d = (dst 1 d).val ∧ k1_dev7 d = (dst 0 d).val ∧ k1_dev8 d = (dst 1 d).val)
    ∧ (k1_dev9 d = (dst 0 d).val ∧ k1_dev10 d = (dst 1 d).val ∧ k1_dev11 d = (dst 0 d).val ∧ k1_dev12 d = (dst 1 d).val)
    ∧ (k1_dev13 d = (dst 0 d).val ∧ k1_dev14 d = (dst 1 d).val ∧ k1_dev15 d = (dst 0 d).val ∧ k1_dev16 d = (dst 1 d).val)
    ∧ (k1_dev17 d = (dst 0 d).val ∧ k1_dev18 d = (dst 1 d).val) := by decide

theorem off_eq : ∀ d : Dev nD,
    (k1_off3 d 0#32 = (blk 0 0 (src 0 d)).off ∧ k1_off4 d 0#32 = (blk 1 0 (src 1 d)).off
      ∧ k1_off3 d 1#32 = (blk 0 0 (src 0 (src 0 d))).off ∧ k1_off4 d 1#32 = (blk 1 0 (src 1 (src 1 d))).off
      ∧ k1_off3 d 2#32 = (blk 0 0 (dst 0 d)).off ∧ k1_off4 d 2#32 = (blk 1 0 (dst 1 d)).off
      ∧ k1_off5 d = (blk 0 0 (dst 0 d)).off ∧ k1_off6 d = (blk 1 0 (dst 1 d)).off
      ∧ k1_off7 d = (blk 0 0 d).off ∧ k1_off8 d = (blk 1 0 d).off)
    ∧ (k1_off11 d 0#32 = (blk 0 1 (src 0 d)).off ∧ k1_off12 d 0#32 = (blk 1 1 (src 1 d)).off
      ∧ k1_off11 d 1#32 = (blk 0 1 (src 0 (src 0 d))).off ∧ k1_off12 d 1#32 = (blk 1 1 (src 1 (src 1 d))).off
      ∧ k1_off11 d 2#32 = (blk 0 1 (dst 0 d)).off ∧ k1_off12 d 2#32 = (blk 1 1 (dst 1 d)).off
      ∧ k1_off13 d = (blk 0 1 (dst 0 d)).off ∧ k1_off14 d = (blk 1 1 (dst 1 d)).off
      ∧ k1_off15 d = (blk 0 1 d).off ∧ k1_off16 d = (blk 1 1 d).off) := by decide

theorem mk_dev {d d' : Dev nD} {n : Nat} (h : n < nD) (e : n = d'.val) : (⟨n, h⟩ : Dev nD) = d' := Fin.ext e

/-- The kernel body is that program. -/
theorem ring_eq (t : Fin cfg1.N) : bodyAt1 (F := F) t = ring := by
  rw [body_raw]
  unfold ringRaw ring
  congr 1
  funext d
  obtain ⟨⟨h1, h2, h3, h4⟩, ⟨h5, h6, h7, h8⟩, ⟨h9, h10, h11, h12⟩, ⟨h13, h14, h15, h16⟩, ⟨h17, h18⟩⟩ := dev_eq d
  obtain ⟨⟨o1, o2, o3, o4, o5, o6, o7, o8, o9, o10⟩, ⟨p1, p2, p3, p4, p5, p6, p7, p8, p9, p10⟩⟩ := off_eq d
  unfold pPassAt
  rw [mk_dev (d := d) _ h1, mk_dev (d := d) _ h2, mk_dev (d := d) _ h3, mk_dev (d := d) _ h4, mk_dev (d := d) _ h5, mk_dev (d := d) _ h6,
    mk_dev (d := d) _ h7, mk_dev (d := d) _ h8, mk_dev (d := d) _ h9, mk_dev (d := d) _ h10, mk_dev (d := d) _ h11, mk_dev (d := d) _ h12,
    mk_dev (d := d) _ h13, mk_dev (d := d) _ h14, mk_dev (d := d) _ h15, mk_dev (d := d) _ h16, mk_dev (d := d) _ h17, mk_dev (d := d) _ h18]
  rw [Blk.ext' (b := ⟨k1_off3 d 0#32, _, _⟩) o1, Blk.ext' (b := ⟨k1_off4 d 0#32, _, _⟩) o2, Blk.ext' (b := ⟨k1_off3 d 1#32, _, _⟩) o3,
    Blk.ext' (b := ⟨k1_off4 d 1#32, _, _⟩) o4, Blk.ext' (b := ⟨k1_off3 d 2#32, _, _⟩) o5, Blk.ext' (b := ⟨k1_off4 d 2#32, _, _⟩) o6,
    Blk.ext' (b := ⟨k1_off5 d, _, _⟩) o7, Blk.ext' (b := ⟨k1_off6 d, _, _⟩) o8, Blk.ext' (b := ⟨k1_off7 d, _, _⟩) o9, Blk.ext' (b := ⟨k1_off8 d, _, _⟩) o10]
  rw [Blk.ext' (b := ⟨k1_off11 d 0#32, _, _⟩) p1, Blk.ext' (b := ⟨k1_off12 d 0#32, _, _⟩) p2, Blk.ext' (b := ⟨k1_off11 d 1#32, _, _⟩) p3,
    Blk.ext' (b := ⟨k1_off12 d 1#32, _, _⟩) p4, Blk.ext' (b := ⟨k1_off11 d 2#32, _, _⟩) p5, Blk.ext' (b := ⟨k1_off12 d 2#32, _, _⟩) p6,
    Blk.ext' (b := ⟨k1_off13 d, _, _⟩) p7, Blk.ext' (b := ⟨k1_off14 d, _, _⟩) p8, Blk.ext' (b := ⟨k1_off15 d, _, _⟩) p9, Blk.ext' (b := ⟨k1_off16 d, _, _⟩) p10]
  rfl

end Cert.KernelIdeal.Ring

end
-- ==== Proof.KernelIdeal.RingSched.lean ====
/- The ring's protocol. Device `c` sends eight messages in either direction `k`; message `g` goes to `dst k c`, into the
   slot of `g`'s parity. A message's arrival hands over the slot at the sum that was sent and, up to the last message, the
   sender's free slot of the OTHER direction, for the receiver's next message there. The two units a device awaits on the
   barrier semaphore hand over the slots of the first messages. -/
module

public import proofs.«01_k».proof.Proof.KernelIdeal.RingProg
public import Idealize.ShloMosaic.Lib.Pipeline.Kit
public import Idealize.ShloMosaic.Lib.Rounds
public import Idealize.ShloMosaic.Lib.Transfers
public import Idealize.ShloMosaic.Lib.Tactic
public import Idealize.ShloMosaic.Lib.Pipeline.RegionTalk
public import Idealize.SL.BI.BigOpNat

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- Ghost state: the pipelines', the ring protocol's, the local copies'. -/
abbrev UU : Type := UR sig nD τ × (URounds (GSem nD τ sig) (Fin 2) × Counters)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 2)) (MT nD τ sig ℕ (Elt F) ℕ UU ℕ) :=
  (Emb.inl : Emb (URounds (GSem nD τ sig) (Fin 2)) (URounds (GSem nD τ sig) (Fin 2) × Counters)).trans embR
abbrev EC : UEmb Counters (MT nD τ sig ℕ (Elt F) ℕ UU ℕ) := countersEmb (U := UU)

instance ER_landsIn : (ER (F := F)).LandsIn (upEmb : UEmb _ 𝕄) := by unfold ER embR; infer_instance

/-! ## Cells -/

abbrev barS : Sem sig := (SemArray.scalar (sig.barrier 0 rfl) : Sems sig S_).sem
abbrev barCell (c : Dev nD) : GSem nD τ sig := ((c : Thread nD τ), .reg barS)
abbrev sndCell (k s : Fin 2) (c : Dev nD) : GSem nD τ sig := ((c : Thread nD τ), .dma (sndS k s))
abbrev rcvCell (k s : Fin 2) (c : Dev nD) : GSem nD τ sig := ((c : Thread nD τ), .dma (rcvS k s))

/-- What a semaphore is for. -/
inductive Role
  | bar
  | snd (k s : Fin 2)
  | rcv (k s : Fin 2)
  | copy
  deriving DecidableEq

def roleOf : SemLoc sig → Role
  | .reg _ => .bar
  | .dma n => match n.val with
    | 8 => .snd 0 0
    | 9 => .snd 0 1
    | 10 => .rcv 0 0
    | 11 => .rcv 0 1
    | 12 => .snd 1 0
    | 13 => .snd 1 1
    | 14 => .rcv 1 0
    | 15 => .rcv 1 1
    | _ => .copy

theorem role_bar : roleOf (.reg barS) = .bar := rfl
theorem role_snd : ∀ k s, roleOf (.dma (sndS k s)) = .snd k s := by decide
theorem role_rcv : ∀ k s, roleOf (.dma (rcvS k s)) = .rcv k s := by decide
theorem role_ld : ∀ k, roleOf (.dma (ldS k)) = .copy := by decide
theorem role_st : ∀ k, roleOf (.dma (stS k)) = .copy := by decide

/-- The send and receive semaphores, counted. -/
def csem : Fin 2 × Fin 2 × Fin 2 → SemLoc sig
  | (0, k, s) => .dma (sndS k s)
  | (1, k, s) => .dma (rcvS k s)
theorem csem_inj : Function.Injective csem := by decide
theorem csem_ne_bar : ∀ i, csem i ≠ .reg barS := by decide

def barEmb : Dev nD ↪ GSem nD τ sig := ⟨fun c => barCell c, fun _ _ h => congrArg (fun g : GSem nD τ sig => g.1.1) h⟩
def scEmb : Dev nD × (Fin 2 × Fin 2 × Fin 2) ↪ GSem nD τ sig :=
  ⟨fun ci => ((ci.1 : Thread nD τ), csem ci.2), fun _ _ h =>
    Prod.ext (congrArg (fun g : GSem nD τ sig => g.1.1) h) (csem_inj (congrArg Prod.snd h))⟩
def barCells : Finset (GSem nD τ sig) := Finset.univ.map barEmb
def scCells : Finset (GSem nD τ sig) := Finset.univ.map scEmb
theorem bar_mem (c : Dev nD) : barCell c ∈ (barCells ∪ scCells : Finset (GSem nD τ sig)) :=
  Finset.mem_union_left _ (Finset.mem_map_of_mem barEmb (Finset.mem_univ c))
theorem snd_mem (k s : Fin 2) (c : Dev nD) : sndCell k s c ∈ (barCells ∪ scCells : Finset (GSem nD τ sig)) :=
  Finset.mem_union_right _ (Finset.mem_map_of_mem scEmb (Finset.mem_univ (c, ((0 : Fin 2), k, s))))
theorem rcv_mem (k s : Fin 2) (c : Dev nD) : rcvCell k s c ∈ (barCells ∪ scCells : Finset (GSem nD τ sig)) :=
  Finset.mem_union_right _ (Finset.mem_map_of_mem scEmb (Finset.mem_univ (c, ((1 : Fin 2), k, s))))

/-! ## Directions, slots, amounts -/

theorem src_dst : ∀ (k : Fin 2) (c : Dev nD), src k (dst k c) = c := by decide
theorem dst_src : ∀ (k : Fin 2) (c : Dev nD), dst k (src k c) = c := by decide
/-- The other direction goes back. -/
def opp : Fin 2 → Fin 2 := fun | 0 => 1 | 1 => 0
theorem dst_opp : ∀ (k : Fin 2) (c : Dev nD), dst (opp k) c = src k c := by decide
theorem src_opp : ∀ (k : Fin 2) (c : Dev nD), src (opp k) c = dst k c := by decide
theorem opp_opp : ∀ (k : Fin 2), opp (opp k) = k := by decide
theorem src_src : ∀ (k : Fin 2) (c : Dev nD), src k (src k (src k c)) = dst k c := by decide
def dstE (k : Fin 2) : Dev nD ≃ Dev nD := ⟨dst k, src k, src_dst k, dst_src k⟩
def srcE (k : Fin 2) : Dev nD ≃ Dev nD := (dstE k).symm

/-- The slot of message `g`. -/
def sl (g : ℕ) : Fin 2 := ⟨g % 2, Nat.mod_lt _ Nat.two_pos⟩
/-- The pass of message `g`. -/
def ps (g : ℕ) : Fin 2 := if g < 4 then 0 else 1
theorem sl_succ_succ (g : ℕ) : sl (g + 2) = sl g := by unfold sl; ext; exact Nat.add_mod_right g 2
theorem half_succ_succ (g : ℕ) : (g + 2) / 2 = g / 2 + 1 := Nat.add_div_right g Nat.two_pos
theorem msg_of_slot (g : ℕ) : 2 * (g / 2) + (sl g).val = g := Nat.div_add_mod g 2

/-- What a message counts on its semaphores. -/
def N : ℕ := (accM 0).view.dmaCredit
theorem N_pos : 0 < N := View.dmaCredit_pos _ (by decide)
theorem N_acc : ∀ k, (accM k).view.dmaCredit = N := fun | 0 => rfl | 1 => rfl
theorem N_load : ∀ k, (loadM k).view.dmaCredit = N := fun | 0 => rfl | 1 => rfl
theorem N_slot : ∀ k s, (slotM k s).view.dmaCredit = N := fun | 0, 0 => rfl | 0, 1 => rfl | 1, 0 => rfl | 1, 1 => rfl
theorem N_cut (b : Blk) : (cut oM b).view.dmaCredit = N := rfl

/-! ## What is held -/

section Held
variable {sp : Space}

/-- A buffer held through a view at a value; at any contents. -/
def holds (M : Memref sig .tc sp S1024x2048 .bf16) (c : Dev nD) (v : Vec F S1024x2048 .bf16) : sProp 𝕄 :=
  M.view.loc (c : Thread nD τ) ↦[M.view.set]{fullShare} M.view.rep (Val := Elt F) v
def anyAt (M : Memref sig .tc sp S1024x2048 .bf16) (c : Dev nD) : sProp 𝕄 :=
  iprop(∃ f : Buf (Elt F) (M.view.loc (c : Thread nD τ)), M.view.loc (c : Thread nD τ) ↦[M.view.set]{fullShare} f)

instance holds_storable (M : Memref sig .tc sp S1024x2048 .bf16) (c : Dev nD) (v : Vec F S1024x2048 .bf16) :
    BI.Storable (upEmb : UEmb _ 𝕄) (holds M c v) := by unfold holds; infer_instance
instance anyAt_storable (M : Memref sig .tc sp S1024x2048 .bf16) (c : Dev nD) :
    BI.Storable (upEmb : UEmb _ 𝕄) (anyAt (F := F) M c) := by unfold anyAt; infer_instance

theorem holds_any (M : Memref sig .tc sp S1024x2048 .bf16) (c : Dev nD) (v : Vec F S1024x2048 .bf16) :
    holds M c v ⊢ (anyAt M c : sProp 𝕄) := by
  unfold holds anyAt; iintro H; iexists _; iexact H

theorem holds_read (M : Memref sig .tc sp S1024x2048 .bf16) (c : Dev nD) (f : Buf (Elt F) (M.view.loc (c : Thread nD τ))) :
    (M.view.loc (c : Thread nD τ) ↦[M.view.set]{fullShare} f : sProp 𝕄) = holds M c (M.view.read (Elt F) f) :=
  pointsTo_rep (Ix := ℕ) (Name := ℕ) (U := UU) (Lvl := ℕ) (c : Thread nD τ) M f fullShare

theorem holds_written (M : Memref sig .tc sp S1024x2048 .bf16) (c : Dev nD) (f : Buf (Elt F) (M.view.loc (c : Thread nD τ))) (v : Vec F S1024x2048 .bf16) :
    (M.view.loc (c : Thread nD τ) ↦[M.view.set]{fullShare} M.view.write (Elt F) f v Finset.univ : sProp 𝕄) = holds M c v := by
  rw [holds_read, View.read_write_univ]
end Held

/-! ## Values -/

/-- The partial product, as the ring finds it. -/
abbrev Parts (F : FTy → Type) := Dev nD → (main_v1 : Ref sig .tc).ty.Contents (Elt F)
variable (PV : Parts F)

/-- Row block `r` of device `c`'s partial product, in the columns of direction `k` in pass `q`. -/
def pblk (k q : Fin 2) (r c : Dev nD) : Vec F S1024x2048 .bf16 := (cut pM (blk k q r)).view.read (Elt F) (PV c)

/-- The running sum after `n` steps: row block `(src k)^n c`, summed over the `n + 1` devices back along the direction. -/
def rsv (k q : Fin 2) : ℕ → Dev nD → Vec F S1024x2048 .bf16
  | 0, c => pblk PV k q c c
  | n + 1, c => addf (φ := .bf16) (pblk PV k q ((src k)^[n + 1] c) c) (rsv k q n (src k c))

/-- What message `g` carries. -/
def accv (k : Fin 2) (g : ℕ) (c : Dev nD) : Vec F S1024x2048 .bf16 := rsv PV k (ps g) (g % 4) c

/-! ## The schedule -/

/-- A free slot of a neighbour's, for message `g`. -/
def free (k : Fin 2) (g : ℕ) (c : Dev nD) : sProp 𝕄 :=
  iprop(anyAt (slotM k (sl g)) (dst k c) ∗ reached ER (rcvCell k (sl g) (dst k c)) (g / 2))
/-- What comes back with message `g` of direction `k`: the sender's slot for message `g + 1` of the other direction. -/
def back (k : Fin 2) (g : ℕ) (c : Dev nD) : sProp 𝕄 := if g < 7 then free (opp k) (g + 1) c else iprop(emp)

def sndPay (k : Fin 2) (g : ℕ) (c : Dev nD) : sProp 𝕄 := holds (accM k) c (accv PV k g c)
def rcvPay (k : Fin 2) (g : ℕ) (c : Dev nD) : sProp 𝕄 := iprop(holds (slotM k (sl g)) c (accv PV k g (src k c)) ∗ back k g c)

def ringRd : Rounds.Schedule (GSem nD τ sig) (Fin 2) 𝕄 where
  duties g r := if g.1.2 = .tc then
      match roleOf g.2 with
      | .bar => if r = 0 then Finset.univ else ∅
      | .snd _ _ => if r < 4 then {0} else ∅
      | .rcv _ _ => if r < 4 then {0} else ∅
      | .copy => ∅
    else ∅
  unitless _ := False
  amount g _ _ := if roleOf g.2 = .bar then 1 else N
  payload g r d :=
    match roleOf g.2 with
    | .bar => free d 0 g.1.1
    | .snd k s => sndPay PV k (2 * r + s.val) g.1.1
    | .rcv k s => rcvPay PV k (2 * r + s.val) g.1.1
    | .copy => iprop(emp)
  amount_pos g _ _ _ := by
    by_cases h : roleOf g.2 = .bar
    · rw [if_pos h]; exact Nat.one_pos
    · rw [if_neg h]; exact N_pos

instance free_storable (k : Fin 2) (g : ℕ) (c : Dev nD) : BI.Storable (upEmb : UEmb _ 𝕄) (free (F := F) k g c) := by
  unfold free; infer_instance
instance back_storable (k : Fin 2) (g : ℕ) (c : Dev nD) : BI.Storable (upEmb : UEmb _ 𝕄) (back (F := F) k g c) := by
  unfold back; split <;> infer_instance

instance ringRd_payload_storable (g : GSem nD τ sig) (r : ℕ) (d : Fin 2) :
    BI.Storable (upEmb : UEmb _ 𝕄) ((ringRd PV).payload g r d) := by
  show BI.Storable upEmb (match roleOf g.2 with
    | .bar => free d 0 g.1.1
    | .snd k s => sndPay PV k (2 * r + s.val) g.1.1
    | .rcv k s => rcvPay PV k (2 * r + s.val) g.1.1
    | .copy => iprop(emp))
  unfold sndPay rcvPay
  split <;> infer_instance

section Sched
variable (c : Dev nD) (k s : Fin 2) (r : ℕ)

theorem duties_bar : (ringRd PV).duties (barCell c) 0 = Finset.univ := by
  dsimp only [ringRd]; rw [if_pos rfl, role_bar]; exact if_pos rfl
theorem duties_snd (h : r < 4) : (ringRd PV).duties (sndCell k s c) r = {0} := by
  dsimp only [ringRd]; rw [if_pos rfl, role_snd]; exact if_pos h
theorem duties_rcv (h : r < 4) : (ringRd PV).duties (rcvCell k s c) r = {0} := by
  dsimp only [ringRd]; rw [if_pos rfl, role_rcv]; exact if_pos h
theorem duties_bar_later (h : 1 ≤ r) : (ringRd PV).duties (barCell c) r = ∅ := by
  dsimp only [ringRd]; rw [if_pos rfl, role_bar]; exact if_neg (by omega)
theorem duties_snd_later (h : 4 ≤ r) : (ringRd PV).duties (sndCell k s c) r = ∅ := by
  dsimp only [ringRd]; rw [if_pos rfl, role_snd]; exact if_neg (by omega)
theorem duties_rcv_later (h : 4 ≤ r) : (ringRd PV).duties (rcvCell k s c) r = ∅ := by
  dsimp only [ringRd]; rw [if_pos rfl, role_rcv]; exact if_neg (by omega)

theorem amount_bar (d : Fin 2) : (ringRd PV).amount (barCell c) r d = 1 := by dsimp only [ringRd]; rw [role_bar]; exact if_pos rfl
theorem amount_snd (d : Fin 2) : (ringRd PV).amount (sndCell k s c) r d = N := by
  dsimp only [ringRd]; rw [role_snd]; exact if_neg Role.noConfusion
theorem amount_rcv (d : Fin 2) : (ringRd PV).amount (rcvCell k s c) r d = N := by
  dsimp only [ringRd]; rw [role_rcv]; exact if_neg Role.noConfusion

theorem expect_bar : (ringRd PV).expect (barCell c) 0 = 2 := by
  unfold Schedule.expect Schedule.amountOf; rw [duties_bar, Finset.sum_congr rfl fun d _ => amount_bar PV c 0 d]; rfl
theorem expect_snd (h : r < 4) : (ringRd PV).expect (sndCell k s c) r = N := by
  unfold Schedule.expect Schedule.amountOf; rw [duties_snd PV c k s r h, Finset.sum_singleton, amount_snd]
theorem expect_rcv (h : r < 4) : (ringRd PV).expect (rcvCell k s c) r = N := by
  unfold Schedule.expect Schedule.amountOf; rw [duties_rcv PV c k s r h, Finset.sum_singleton, amount_rcv]

theorem payload_bar (d : Fin 2) : (ringRd PV).payload (barCell c) 0 d = free d 0 c := by dsimp only [ringRd]; rw [role_bar]
theorem payload_snd (g : ℕ) (d : Fin 2) : (ringRd PV).payload (sndCell k (sl g) c) (g / 2) d = sndPay PV k g c := by
  dsimp only [ringRd]; rw [role_snd]; dsimp only; rw [msg_of_slot]
theorem payload_rcv (g : ℕ) (d : Fin 2) : (ringRd PV).payload (rcvCell k (sl g) c) (g / 2) d = rcvPay PV k g c := by
  dsimp only [ringRd]; rw [role_rcv]; dsimp only; rw [msg_of_slot]

theorem rest_bar : bigSep ((ringRd PV).duties (barCell c) 0 \ ∅) (fun d => (ringRd PV).payload (barCell c) 0 d)
    = iprop(free 0 0 c ∗ free 1 0 c) := by
  rw [Finset.sdiff_empty, duties_bar, bigSep_fin_two, payload_bar, payload_bar]; rfl
theorem rest_snd (g : ℕ) (h : g < 8) : bigSep ((ringRd PV).duties (sndCell k (sl g) c) (g / 2) \ ∅) (fun d => (ringRd PV).payload (sndCell k (sl g) c) (g / 2) d)
    = sndPay PV k g c := by
  rw [Finset.sdiff_empty, duties_snd PV c k _ _ (by omega), bigSep_singleton, payload_snd]
theorem rest_rcv (g : ℕ) (h : g < 8) : bigSep ((ringRd PV).duties (rcvCell k (sl g) c) (g / 2) \ ∅) (fun d => (ringRd PV).payload (rcvCell k (sl g) c) (g / 2) d)
    = rcvPay PV k g c := by
  rw [Finset.sdiff_empty, duties_rcv PV c k _ _ (by omega), bigSep_singleton, payload_rcv]

end Sched

/-! ## What is owed, and the levels -/

/-- What message `g` pays, in one direction. -/
abbrev due (k : Fin 2) (g : ℕ) (c : Dev nD) : CellTallies nD τ sig ℕ := tallyAt (rcvCell k (sl g) (dst k c)) g N
/-- What is owed before message `g`: the messages from `g` on. -/
def owed (g : ℕ) (c : Dev nD) : CellTallies nD τ sig ℕ := ∑ i ∈ Finset.Ico g 8, (due 0 i c + due 1 i c)
/-- With the barrier's two units. -/
def O₀ (c : Dev nD) : CellTallies nD τ sig ℕ := (owed 0 c + tallyAt (barCell (dst 0 c)) 0 1) + tallyAt (barCell (dst 1 c)) 0 1

theorem owed_peel {g : ℕ} (h : g < 8) (c : Dev nD) : owed g c = (owed (g + 1) c + due 1 g c) + due 0 g c := by
  unfold owed
  have hn : g ∉ Finset.Ico (g + 1) 8 := by rw [Finset.mem_Ico]; omega
  have he : Finset.Ico g 8 = insert g (Finset.Ico (g + 1) 8) := by ext x; rw [Finset.mem_insert, Finset.mem_Ico, Finset.mem_Ico]; omega
  rw [he, Finset.sum_insert hn, add_assoc, add_comm]
  congr 1
  exact add_comm _ _
theorem owed_last (c : Dev nD) : owed 8 c = 0 := by unfold owed; rw [Finset.Ico_self, Finset.sum_empty]

def L (g : GSem nD τ sig) : Finset ℕ := if g.1.2 = .tc then Finset.range 8 else ∅
def lv (g : GSem nD τ sig) (i : ℕ) : ℕ :=
  match roleOf g.2 with
  | .bar => 1
  | .rcv _ _ => 2 + i
  | _ => 0
theorem L_tc (c : Dev nD) (sm : SemLoc sig) : L ((c : Thread nD τ), sm) = Finset.range 8 := if_pos rfl
theorem L_of_ne (g : GSem nD τ sig) (h : g.1.2 ≠ .tc) : L g = ∅ := if_neg h
theorem lv_rcv (k s : Fin 2) (c : Dev nD) (i : ℕ) : lv (rcvCell k s c) i = 2 + i := by unfold lv; rw [role_rcv]
theorem lv_snd (k s : Fin 2) (c : Dev nD) (i : ℕ) : lv (sndCell k s c) i = 0 := by unfold lv; rw [role_snd]
theorem lv_bar (c : Dev nD) (i : ℕ) : lv (barCell c) i = 1 := by unfold lv; rw [role_bar]
theorem lv_copy (c : Dev nD) (sm : SemLoc sig) (h : roleOf sm = .copy) (i : ℕ) : lv ((c : Thread nD τ), sm) i = 0 := by unfold lv; rw [h]

theorem due_pos {k : Fin 2} {g : ℕ} {c : Dev nD} {x : GSem nD τ sig} {i : ℕ} (h : 0 < due k g c x i) :
    x = rcvCell k (sl g) (dst k c) ∧ i = g := by
  rw [tallyAt_apply] at h
  split at h
  · assumption
  · exact absurd h (Nat.lt_irrefl 0)

theorem owed_pos {g : ℕ} {c : Dev nD} {x : GSem nD τ sig} {i : ℕ} (h : 0 < owed g c x i) :
    ∃ k, g ≤ i ∧ i < 8 ∧ x = rcvCell k (sl i) (dst k c) := by
  unfold owed at h
  rw [Finset.sum_apply, Finsupp.finset_sum_apply] at h
  obtain ⟨j, hj, hp⟩ := Finset.exists_ne_zero_of_sum_ne_zero (Nat.pos_iff_ne_zero.mp h)
  rw [Finset.mem_Ico] at hj
  rw [Pi.add_apply, Finsupp.add_apply] at hp
  rcases Nat.add_pos_iff_pos_or_pos.mp (Nat.pos_of_ne_zero hp) with h | h
  · obtain ⟨rfl, rfl⟩ := due_pos h; exact ⟨0, hj.1, hj.2, rfl⟩
  · obtain ⟨rfl, rfl⟩ := due_pos h; exact ⟨1, hj.1, hj.2, rfl⟩

/-- A wait below the level of everything owed. -/
theorem mayWait_of_lt (c : Dev nD) (sm : SemLoc sig) (i g : ℕ) (hi : i < 8) (h : lv ((c : Thread nD τ), sm) i < 2 + g) :
    (levAts L lv : sProp 𝕄) ⊢ MayWait (c : Thread nD τ) sm i (owed g c) :=
  MayOwe.of_cut (L := L) (lev := lv) (lv ((c : Thread nD τ), sm) i) (fun p hp => by rw [Finset.mem_singleton.mp hp, L_tc]; exact Finset.mem_range.mpr hi)
    (fun x u hx => by
      obtain ⟨k, h1, h2, rfl⟩ := owed_pos hx
      rw [L_tc]; exact Finset.mem_range.mpr h2)
    (fun p hp => by rw [Finset.mem_singleton.mp hp])
    (fun x u hx => by
      obtain ⟨k, h1, h2, rfl⟩ := owed_pos hx
      rw [lv_rcv]; omega)

theorem mayWait_bar (c : Dev nD) : (levAts L lv : sProp 𝕄) ⊢ MayWait (c : Thread nD τ) (.reg barS) 0 (owed 0 c) :=
  mayWait_of_lt c _ 0 0 (by decide) (by rw [lv_bar]; decide)
theorem mayWait_snd (k s : Fin 2) (c : Dev nD) (g : ℕ) : (levAts L lv : sProp 𝕄) ⊢ MayWait (c : Thread nD τ) (.dma (sndS k s)) 0 (owed g c) :=
  mayWait_of_lt c _ 0 g (by decide) (by rw [lv_snd]; omega)
theorem mayWait_rcv (k s : Fin 2) (c : Dev nD) (g : ℕ) (h : g < 8) : (levAts L lv : sProp 𝕄) ⊢ MayWait (c : Thread nD τ) (.dma (rcvS k s)) g (owed (g + 1) c) :=
  mayWait_of_lt c _ g (g + 1) h (by rw [lv_rcv]; omega)
theorem mayWait_copy (c : Dev nD) (sm : SemLoc sig) (h : roleOf sm = .copy) (g : ℕ) : (levAts L lv : sProp 𝕄) ⊢ MayWait (c : Thread nD τ) sm 0 (owed g c) :=
  mayWait_of_lt c _ 0 g (by decide) (by rw [lv_copy c sm h]; omega)

end Cert.KernelIdeal.Ring

end
-- ==== Proof.KernelIdeal.RingPieces.lean ====
/- One rule per piece of the ring's program: what it takes, and what the program continues with. -/
module

public import proofs.«01_k».proof.Proof.KernelIdeal.RingSched
public import Idealize.ShloMosaic.Lib.VecWindow
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (PV : Parts F)

abbrev 𝒱₀ : Variants := Variants.none

/-- The program run on device `c` to its end. -/
abbrev run (c : Dev nD) (p : P F) (Q : PUnit.{1} → sProp 𝕄) : sProp 𝕄 :=
  wp frame (wpE (defs₀ (F := F)) 𝒱₀ (c : Thread nD τ) none) Set.univ p Q

/-- Every cell's invariant, at the names the launch chose. -/
def invs (κ : GSem nD τ sig → ℕ) : sProp 𝕄 := bigSep (barCells ∪ scCells) fun g => cellInv ER (ringRd PV) (κ g) g
instance invs_persistent (κ : GSem nD τ sig → ℕ) : BI.Persistent (invs PV κ) := by unfold invs; infer_instance
theorem inv_at (κ : GSem nD τ sig → ℕ) {g : GSem nD τ sig} (hg : g ∈ (barCells ∪ scCells : Finset (GSem nD τ sig))) :
    invs PV κ ⊢ cellInv ER (ringRd PV) (κ g) g := bigSep_elim hg

/-- Owing `O`. -/
def ow (c : Dev nD) (O : CellTallies nD τ sig ℕ) : sProp 𝕄 := iprop(∃ W, owes (c : Thread nD τ) O W)

variable (κ : GSem nD τ sig → ℕ) (c : Dev nD) (kont : PUnit.{1} → P F) (Q : PUnit.{1} → sProp (MT nD τ sig ℕ (Elt F) ℕ UU ℕ))

/-! ## Messages -/

theorem send_at (k : Fin 2) (g : ℕ) (hg : g < 8) (O : CellTallies nD τ sig ℕ) :
    iprop(invs PV κ ∗ holds (accM k) c (accv PV k g c) ∗ free k g c ∗ back k g (dst k c)
        ∗ (reached ER (sndCell k (sl g) c) (g / 2) ∗ dutyTok ER (sndCell k (sl g) c) (g / 2) 0 ∗ dutyTok ER (rcvCell k (sl g) (dst k c)) (g / 2) 0)
        ∗ ow c (O + due k g c))
      ⊢ iprop(((cred (tallyAt (sndCell k (sl g) c) 0 N) ∗ ow c O) -∗ run c (kont ⟨⟩) Q)
          -∗ run c (pSend k (sl g) (dst k c) >>= kont) Q) := by
  unfold ow free anyAt
  iintro ⟨#HI, Ha, ⟨⟨%fd, Hs⟩, #Hr⟩, Hb, ⟨#Hr', Ht, Ht'⟩, ⟨%W, HO⟩⟩ Hk
  iapply (Rounds.wp_send_pointsTo_with 𝒱₀ ER (ringRd PV) (c : Thread nD τ) none (c' := (dst k c : Thread nD τ)) (src := accM k) (dst := slotM k (sl g))
      (sS := .dma (sndS k (sl g))) (sem := .dma (rcvS k (sl g))) (q := fullShare) (fs := (accM k).view.rep (Val := Elt F) (accv PV k g c))
      (κ₁ := κ (sndCell k (sl g) c)) (κ₂ := κ (rcvCell k (sl g) (dst k c))) (F := back k g (dst k c))
      (r₁ := g / 2) (r₂ := g / 2) (d₁ := 0) (d₂ := 0) (fd := fd)
      (by rw [duties_snd PV c k _ _ (by omega)]; exact Finset.mem_singleton_self _)
      (by rw [duties_rcv PV (dst k c) k _ _ (by omega)]; exact Finset.mem_singleton_self _)
      g 0 N (N_slot k (sl g)) (amount_snd PV c k _ _ 0) (amount_rcv PV (dst k c) k _ _ 0) O rfl (W := W)
      (by rw [payload_snd]; exact BI.Entails.refl _)
      (by rw [payload_rcv]; unfold rcvPay; rw [holds_written, View.read_rep, src_dst])) $$ [Ha Hs Hb Ht Ht' HO]
  · isplitr; · iapply (inv_at PV κ (snd_mem k (sl g) c)); iexact HI
    isplitr; · iapply (inv_at PV κ (rcv_mem k (sl g) (dst k c))); iexact HI
    isplitl [Ha]; · unfold holds; iexact Ha
    isplitl [Hs Hb]
    · isplitl [Hs]; · iexact Hs
      iexact Hb
    isplitl [HO]; · iexact HO
    isplitl [Ht]; · iexact Ht
    isplitr; · iexact Hr'
    isplitl [Ht']; · iexact Ht'
    iexact Hr
  iintro ⟨Hc, HO⟩
  iapply Hk
  isplitl [Hc]; · iexact Hc
  iexists W; iexact HO

theorem sent_at (k : Fin 2) (g : ℕ) (hg : g < 8) :
    iprop(invs PV κ ∗ levAts L lv ∗ cred (tallyAt (sndCell k (sl g) c) 0 N) ∗ ow c (owed (g + 1) c) ∗ atPos ER (sndCell k (sl g) c) (g / 2) ∅ 0)
      ⊢ iprop(((ow c (owed (g + 1) c) ∗ atPos ER (sndCell k (sl g) c) (g / 2 + 1) ∅ 0 ∗ reached ER (sndCell k (sl g) c) (g / 2 + 1)
            ∗ holds (accM k) c (accv PV k g c)) -∗ run c (kont ⟨⟩) Q)
          -∗ run c (pSent k (sl g) >>= kont) Q) := by
  unfold ow
  iintro ⟨#HI, #Hlev, Hc, ⟨%W, HO⟩, Hat⟩ Hk
  iapply (Rounds.wp_wait_rest_token 𝒱₀ ER (ringRd PV) (c : Thread nD τ) none (κ := κ (sndCell k (sl g) c))
      (wpE_waitDma2_eq 𝒱₀ (c : Thread nD τ) none Set.univ) (Set.mem_univ _) 0 (O := owed (g + 1) c) (W := W) (R := g / 2) (m := 0) (T := ∅)
      ((Nat.zero_add _).trans ((N_acc k).trans (expect_snd PV c k (sl g) (g / 2) (by omega)).symm))) $$ [Hc HO Hat]
  · isplitr; · iapply (inv_at PV κ (snd_mem k (sl g) c)); iexact HI
    isplitl [Hc]; · rw [N_acc]; iexact Hc
    isplitl [HO]; · iexact HO
    isplitr; · iapply (mayWait_snd k (sl g) c (g + 1)); iexact Hlev
    iexact Hat
  iintro ⟨HO, Hat, Hr, Hpay⟩
  ihave Ha := (Entails.of_eq ((rest_snd PV c k g hg).trans (by unfold sndPay; rfl))) $$ Hpay
  iapply Hk
  isplitl [HO]; · iexists _; iexact HO
  isplitl [Hat]; · iexact Hat
  isplitl [Hr]; · iexact Hr
  iexact Ha

theorem recv_at (k : Fin 2) (g : ℕ) (hg : g < 8) :
    iprop(invs PV κ ∗ levAts L lv ∗ cred (tallyAt (rcvCell k (sl g) c) g N) ∗ ow c (owed (g + 1) c) ∗ atPos ER (rcvCell k (sl g) c) (g / 2) ∅ 0)
      ⊢ iprop(((ow c (owed (g + 1) c) ∗ atPos ER (rcvCell k (sl g) c) (g / 2 + 1) ∅ 0 ∗ reached ER (rcvCell k (sl g) c) (g / 2 + 1)
            ∗ holds (slotM k (sl g)) c (accv PV k g (src k c)) ∗ back k g c) -∗ run c (kont ⟨⟩) Q)
          -∗ run c (pRecv k (sl g) >>= kont) Q) := by
  unfold ow
  iintro ⟨#HI, #Hlev, Hc, ⟨%W, HO⟩, Hat⟩ Hk
  iapply (Rounds.wp_wait_rest_token 𝒱₀ ER (ringRd PV) (c : Thread nD τ) none (κ := κ (rcvCell k (sl g) c))
      (wpE_waitDma2_eq 𝒱₀ (c : Thread nD τ) none Set.univ) (Set.mem_univ _) g (O := owed (g + 1) c) (W := W) (R := g / 2) (m := 0) (T := ∅)
      ((Nat.zero_add _).trans ((N_slot k (sl g)).trans (expect_rcv PV c k (sl g) (g / 2) (by omega)).symm))) $$ [Hc HO Hat]
  · isplitr; · iapply (inv_at PV κ (rcv_mem k (sl g) c)); iexact HI
    isplitl [Hc]; · rw [N_slot]; iexact Hc
    isplitl [HO]; · iexact HO
    isplitr; · iapply (mayWait_rcv k (sl g) c g hg); iexact Hlev
    iexact Hat
  iintro ⟨HO, Hat, Hr, Hpay⟩
  ihave Ha := (Entails.of_eq ((rest_rcv PV c k g hg).trans (by unfold rcvPay; rfl))) $$ Hpay
  icases Ha with ⟨Ha, Hb⟩
  iapply Hk
  isplitl [HO]; · iexists _; iexact HO
  isplitl [Hat]; · iexact Hat
  isplitl [Hr]; · iexact Hr
  isplitl [Ha]; · iexact Ha
  iexact Hb

/-! ## Local copies -/

/-- The two directions read the partial product at half a share each. -/
def half : Fin 2 → PosShare TreeShare := fun | 0 => fullShare.left | 1 => fullShare.right
def ptP (k : Fin 2) : sProp 𝕄 := pM.view.loc (c : Thread nD τ) ↦[Finset.univ]{half k} PV c
/-- A direction's columns of the result. -/
def ptO (S : Finset (Idx (oM.view.loc (c : Thread nD τ)))) (f : Buf (Elt F) (oM.view.loc (c : Thread nD τ))) : sProp 𝕄 :=
  oM.view.loc (c : Thread nD τ) ↦[S]{fullShare} f

/-- A block on its way into `M`. -/
def loading (k : Fin 2) (M : Memref sig .tc .vmem S1024x2048 .bf16) (b : Blk) : sProp 𝕄 :=
  iprop(∃ fd : Buf (Elt F) (M.view.loc (c : Thread nD τ)),
    Transfers.Flight EC (c : Thread nD τ) (.dma (ldS k)) 0 N
      iprop((M.view.loc (c : Thread nD τ) ↦[M.view.set]{fullShare} M.view.write (Elt F) fd ((cut pM b).view.read (Elt F) (PV c)) Finset.univ)
        ∗ ((cut pM b).view.loc (c : Thread nD τ) ↦[(cut pM b).view.set]{half k} PV c))
    ∗ (pM.view.loc (c : Thread nD τ) ↦[Finset.univ \ (cut pM b).view.set]{half k} PV c))

theorem ld_at (k : Fin 2) (M : Memref sig .tc .vmem S1024x2048 .bf16) (hM : M.view.WordExact) (hN : M.view.dmaCredit = N) (b : Blk) :
    iprop(ptP PV c k ∗ anyAt M c ∗ semVal ((c : Thread nD τ), SemLoc.dma (ldS k)) 0)
      ⊢ iprop((loading PV c k M b -∗ run c (kont ⟨⟩) Q) -∗ run c (pLd k M hM b >>= kont) Q) := by
  unfold ptP anyAt
  iintro ⟨Hp, ⟨%fd, Hd⟩, Hv⟩ Hk
  ihave Hp := (pointsTo_split_subset (I := (cut pM b).view.set) (Finset.subset_univ _)).1 $$ Hp
  icases Hp with ⟨Hp, Hrest⟩
  iapply (Transfers.wp_dmaLocal EC 𝒱₀ (c : Thread nD τ) none (src := cut pM b) (dst := M) (sm := .dma (ldS k)) (q := half k) (fs := PV c) (fd := fd)
    (Sd := M.view.set) 0 N hN N_pos (Finset.Subset.refl _)) $$ [Hp Hd Hv]
  · isplitl [Hp]; · iexact Hp
    isplitl [Hd]; · iexact Hd
    iexact Hv
  iintro Hf
  iapply Hk
  unfold loading
  iexists fd
  isplitl [Hf]; · iexact Hf
  iexact Hrest

theorem ldW_at (k : Fin 2) (M : Memref sig .tc .vmem S1024x2048 .bf16) (hM : M.view.WordExact) (hN : M.view.dmaCredit = N) (b : Blk) (g : ℕ) :
    iprop(levAts L lv ∗ loading PV c k M b ∗ ow c (owed g c))
      ⊢ iprop(((holds M c ((cut pM b).view.read (Elt F) (PV c)) ∗ ptP PV c k ∗ semVal ((c : Thread nD τ), SemLoc.dma (ldS k)) 0 ∗ ow c (owed g c))
            -∗ run c (kont ⟨⟩) Q) -∗ run c (pLdW k M hM b >>= kont) Q) := by
  unfold loading ow
  iintro ⟨#Hlev, ⟨%fd, Hf, Hrest⟩, ⟨%W, HO⟩⟩ Hk
  iapply (Transfers.wp_waitLocalO EC 𝒱₀ (c : Thread nD τ) none (sem := ldS k) 0 hN) $$ [Hf HO]
  · isplitl [Hf]; · iexact Hf
    isplitl [HO]; · iexact HO
    iapply (mayWait_copy c _ (role_ld k) g); iexact Hlev
  iintro ⟨⟨Hd, Hp⟩, Hv, HO⟩
  iapply Hk
  isplitl [Hd]; · iapply (Entails.of_eq (holds_written M c fd _)) $$ Hd
  isplitl [Hp Hrest]
  · unfold ptP
    iapply (pointsTo_split_subset (I := (cut pM b).view.set) (Finset.subset_univ _)).2
    isplitl [Hp]; · iexact Hp
    iexact Hrest
  isplitl [Hv]; · iexact Hv
  iexists _; iexact HO

/-- A sum on its way into block `b` of the result. -/
def storing (k : Fin 2) (M : Memref sig .tc .vmem S1024x2048 .bf16) (b : Blk) (v : Vec F S1024x2048 .bf16)
    (S : Finset (Idx (oM.view.loc (c : Thread nD τ)))) (f : Buf (Elt F) (oM.view.loc (c : Thread nD τ))) : sProp 𝕄 :=
  Transfers.Flight EC (c : Thread nD τ) (.dma (stS k)) 0 N iprop(ptO c S ((cut oM b).view.write (Elt F) f v Finset.univ) ∗ holds M c v)

theorem st_at (k : Fin 2) (M : Memref sig .tc .vmem S1024x2048 .bf16) (hM : M.view.WordExact) (b : Blk) (v : Vec F S1024x2048 .bf16)
    (S : Finset (Idx (oM.view.loc (c : Thread nD τ)))) (f : Buf (Elt F) (oM.view.loc (c : Thread nD τ))) (hS : (cut oM b).view.set ⊆ S) :
    iprop(holds M c v ∗ ptO c S f ∗ semVal ((c : Thread nD τ), SemLoc.dma (stS k)) 0)
      ⊢ iprop((storing c k M b v S f -∗ run c (kont ⟨⟩) Q) -∗ run c (pSt k M hM b >>= kont) Q) := by
  unfold ptO holds
  iintro ⟨Hs, Hd, Hv⟩ Hk
  iapply (Transfers.wp_dmaLocal EC 𝒱₀ (c : Thread nD τ) none (src := M) (dst := cut oM b) (sm := .dma (stS k)) (q := fullShare)
    (fs := M.view.rep (Val := Elt F) v) (fd := f) (Sd := S) 0 N (N_cut b) N_pos hS) $$ [Hs Hd Hv]
  · isplitl [Hs]; · iexact Hs
    isplitl [Hd]; · iexact Hd
    iexact Hv
  iintro Hf
  iapply Hk
  unfold storing holds ptO
  rw [show ReadAs.apply (ReadAs.same (Val := Elt F)) (M.view.read (Elt F) (M.view.rep (Val := Elt F) v)) = v from View.read_rep _ _]
  iexact Hf

theorem stW_at (k : Fin 2) (M : Memref sig .tc .vmem S1024x2048 .bf16) (hM : M.view.WordExact) (b : Blk) (v : Vec F S1024x2048 .bf16)
    (S : Finset (Idx (oM.view.loc (c : Thread nD τ)))) (f : Buf (Elt F) (oM.view.loc (c : Thread nD τ))) (g : ℕ) :
    iprop(levAts L lv ∗ storing c k M b v S f ∗ ow c (owed g c))
      ⊢ iprop(((holds M c v ∗ ptO c S ((cut oM b).view.write (Elt F) f v Finset.univ) ∗ semVal ((c : Thread nD τ), SemLoc.dma (stS k)) 0 ∗ ow c (owed g c))
            -∗ run c (kont ⟨⟩) Q) -∗ run c (pStW k M hM b >>= kont) Q) := by
  unfold storing ow
  iintro ⟨#Hlev, Hf, ⟨%W, HO⟩⟩ Hk
  iapply (Transfers.wp_waitLocalO EC 𝒱₀ (c : Thread nD τ) none (sem := stS k) 0 (N_cut b)) $$ [Hf HO]
  · isplitl [Hf]; · iexact Hf
    isplitl [HO]; · iexact HO
    iapply (mayWait_copy c _ (role_st k) g); iexact Hlev
  iintro ⟨⟨Hd, Hp⟩, Hv, HO⟩
  iapply Hk
  isplitl [Hp]; · iexact Hp
  isplitl [Hd]; · iexact Hd
  isplitl [Hv]; · iexact Hv
  iexists _; iexact HO

/-! ## The addition -/

theorem whole_read (M : Memref sig .tc .vmem S1024x2048 .bf16) (f : M.view.ty.Contents (Elt F)) :
    (M.access wholeR).read (Elt F) f = M.view.read (Elt F) f := by
  funext x
  show M.view.read (Elt F) f (wholeR.emb x) = _
  rw [Rect.emb_unit_full]

theorem whole_written (M : Memref sig .tc .vmem S1024x2048 .bf16) (f : M.view.ty.Contents (Elt F)) (v : Vec F S1024x2048 .bf16) :
    M.view.read (Elt F) ((M.access wholeR).write (Elt F) f v Finset.univ) = v := by
  rw [← whole_read]; exact View.read_write_univ _ _

theorem whole_set (M : Memref sig .tc .vmem S1024x2048 .bf16) : (M.access wholeR).set ⊆ M.view.set :=
  View.set_slice_subset _ _

/-- What a load of slot `s` reads. -/
def slotV (k : Fin 2) : Fin 2 → Vec F S1024x2048 .bf16 → Vec F S1x1024x2048 .bf16 := fun
  | 0, b => ((commB k).access (slotR 0)).read (Elt F) ((slotM k 0).view.rep (Val := Elt F) b)
  | 1, b => ((commB k).access (slotR 1)).read (Elt F) ((slotM k 1).view.rep (Val := Elt F) b)
theorem slotV_cast (k : Fin 2) (b : Vec F S1024x2048 .bf16) : ∀ s, shapeCast S1024x2048 (slotV k s b) shapeCasts_S1x1024x2048_S1024x2048 = b := fun
  | 0 => View.read_rep (slotM k 0).view b
  | 1 => View.read_rep (slotM k 1).view b

theorem slot_at (k s : Fin 2) (b : Vec F S1024x2048 .bf16) (kb : Vec F S1x1024x2048 .bf16 → P F) :
    holds (slotM k s) c b ⊢ iprop((holds (slotM k s) c b -∗ run c (kb (slotV k s b)) Q) -∗ run c (pSlot k s >>= kb) Q) := by
  unfold holds
  fin_cases s
  · exact wp_load_rect 𝒱₀ (c : Thread nD τ) none Set.univ (m := commB k) (r := slotR 0) (S := (slotM k 0).view.set) (q := fullShare)
      (f := (slotM k 0).view.rep (Val := Elt F) b) (Finset.subset_of_eq (View.set_reshape _ _).symm)
  · exact wp_load_rect 𝒱₀ (c : Thread nD τ) none Set.univ (m := commB k) (r := slotR 1) (S := (slotM k 1).view.set) (q := fullShare)
      (f := (slotM k 1).view.rep (Val := Elt F) b) (Finset.subset_of_eq (View.set_reshape _ _).symm)

/-- A load of a whole scratch block. -/
theorem whole_at (M : Memref sig .tc .vmem S1024x2048 .bf16) (hl : M.view.LoadsAt wholeR.toLoadRect) (f : Buf (Elt F) (M.view.loc (c : Thread nD τ)))
    (kb : Vec F S1024x2048 .bf16 → P F) :
    (M.view.loc (c : Thread nD τ) ↦[M.view.set]{fullShare} f : sProp 𝕄)
      ⊢ iprop(((M.view.loc (c : Thread nD τ) ↦[M.view.set]{fullShare} f) -∗ run c (kb (M.view.read (Elt F) f)) Q)
          -∗ run c (Prog.lift (.load M wholeR.toLoadRect hl) >>= kb) Q) := by
  rw [← whole_read]
  exact wp_load_rect 𝒱₀ (c : Thread nD τ) none Set.univ (m := M) (r := wholeR) (S := M.view.set) (q := fullShare) (f := f) (whole_set M)

theorem add_at (k s : Fin 2) (a b : Vec F S1024x2048 .bf16) :
    iprop(holds (loadM k) c a ∗ holds (slotM k s) c b ∗ anyAt (accM k) c)
      ⊢ iprop(((holds (loadM k) c a ∗ holds (slotM k s) c b ∗ holds (accM k) c (addf (φ := .bf16) a b)) -∗ run c (kont ⟨⟩) Q)
          -∗ run c (pAdd k s >>= kont) Q) := by
  unfold pAdd
  simp only [bind_assoc]
  iintro ⟨Ha, Hb, Hacc⟩ Hk
  unfold anyAt
  icases Hacc with ⟨%f, Hacc⟩
  unfold holds
  iapply (whole_at c Q (loadM k) _ _ _) $$ Ha
  iintro Ha
  iapply (slot_at c Q k s b _) $$ [Hb]
  · unfold holds; iexact Hb
  iintro Hb
  iapply (whole_at c Q (accM k) _ _ _) $$ Hacc
  iintro Hacc
  iapply (wp_store 𝒱₀ (c : Thread nD τ) none Set.univ (m := accM k) (r := wholeR) (Mk := Finset.univ) (S := (accM k).view.set) (f := f)
    (whole_set (accM k))) $$ [Hacc]
  · iexact Hacc
  iintro Hacc
  iapply Hk
  isplitl [Ha]; · iexact Ha
  isplitl [Hb]; · unfold holds; iexact Hb
  have e : (accM k).view.read (Elt F) (((accM k).access wholeR).write (Elt F) f (addV ((loadM k).view.read (Elt F) ((loadM k).view.rep (Val := Elt F) a)) (slotV k s b)) Finset.univ)
      = addf (φ := .bf16) a b := by
    rw [whole_written]; unfold addV; rw [View.read_rep, slotV_cast, shapeCast_self]
  rw [← e]
  iapply (Entails.of_eq ((holds_read (accM k) c _).trans (by unfold holds; rfl))) $$ Hacc

end Cert.KernelIdeal.Ring

end
-- ==== Proof.KernelIdeal.RingSteps.lean ====
/- The steps of the ring, from the pieces: what a direction holds before message `g`, and how a step moves it on. -/
module

public import proofs.«01_k».proof.Proof.KernelIdeal.RingPieces

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (PV : Parts F)

/-! ## What a direction holds between messages -/

/-- The standing of a slot's two semaphores: round `n` is next. -/
def at2 (k s : Fin 2) (n : ℕ) (c : Dev nD) : sProp 𝕄 :=
  iprop(atPos ER (sndCell k s c) n ∅ 0 ∗ reached ER (sndCell k s c) n ∗ atPos ER (rcvCell k s c) n ∅ 0 ∗ reached ER (rcvCell k s c) n)
/-- The rights message `g` uses: to send it, and to await its counterpart. -/
def tok (k : Fin 2) (g : ℕ) (c : Dev nD) : sProp 𝕄 :=
  iprop((dutyTok ER (sndCell k (sl g) c) (g / 2) 0 ∗ dutyTok ER (rcvCell k (sl g) (dst k c)) (g / 2) 0) ∗ cred (tallyAt (rcvCell k (sl g) c) g N))
def toks (k : Fin 2) (g : ℕ) (c : Dev nD) : sProp 𝕄 := bigSep (Finset.Ico g 8) fun i => tok k i c
theorem toks_peel {g : ℕ} (h : g < 8) (k : Fin 2) (c : Dev nD) : (toks k g c : sProp 𝕄) = iprop(tok k g c ∗ toks k (g + 1) c) :=
  bigSep_Ico_succ_bot h _
/-- The slot message `g` goes to; after the last message, the device's own slot that nobody was given. -/
def out (k : Fin 2) (g : ℕ) (c : Dev nD) : sProp 𝕄 := if g < 8 then free k g c else anyAt (slotM k (sl g)) c
/-- What is not given away with message `g`. -/
def keep (k : Fin 2) (g : ℕ) (c : Dev nD) : sProp 𝕄 := if g < 7 then iprop(emp) else anyAt (slotM k (sl (g + 1))) c

/-- A direction before message `g`, its own slot aside; with its own slot. -/
def link (k : Fin 2) (g : ℕ) (c : Dev nD) : sProp 𝕄 :=
  iprop(out k g c ∗ at2 k (sl g) (g / 2) c ∗ at2 k (sl (g + 1)) ((g + 1) / 2) c ∗ toks k g c)
def net (k : Fin 2) (g : ℕ) (c : Dev nD) : sProp 𝕄 := iprop(anyAt (slotM k (sl (g + 1))) c ∗ link k g c)
/-- A direction between its send and its waits. -/
def flying (k : Fin 2) (g : ℕ) (c : Dev nD) : sProp 𝕄 :=
  iprop(cred (tallyAt (sndCell k (sl g) c) 0 N) ∗ cred (tallyAt (rcvCell k (sl g) c) g N) ∗ keep k g c
    ∗ atPos ER (sndCell k (sl g) c) (g / 2) ∅ 0 ∗ atPos ER (rcvCell k (sl g) c) (g / 2) ∅ 0
    ∗ at2 k (sl (g + 1)) ((g + 1) / 2) c ∗ toks k (g + 1) c)

theorem give (k : Fin 2) (g : ℕ) (c : Dev nD) :
    iprop(anyAt (slotM (opp k) (sl (g + 1))) c ∗ reached ER (rcvCell (opp k) (sl (g + 1)) c) ((g + 1) / 2))
      ⊢ (iprop(back k g (dst k c) ∗ keep (opp k) g c) : sProp 𝕄) := by
  unfold back keep
  split
  · unfold free
    rw [dst_opp, src_dst]
    iintro ⟨H, Hr⟩
    isplitl [H Hr]
    · isplitl [H] <;> iassumption
    · iempintro
  · iintro ⟨H, -⟩
    isplitr; · iempintro
    iexact H

theorem get (k : Fin 2) (g : ℕ) (c : Dev nD) : iprop(back (opp k) g c ∗ keep k g c) ⊢ (out k (g + 1) c : sProp 𝕄) := by
  unfold back keep out
  by_cases h : g < 7
  · rw [if_pos h, if_pos h, if_pos (by omega), opp_opp]
    iintro ⟨H, -⟩; iexact H
  · rw [if_neg h, if_neg h, if_neg (by omega)]
    iintro ⟨-, H⟩; iexact H

theorem at2_next (k : Fin 2) (g : ℕ) (c : Dev nD) : (at2 k (sl (g + 1 + 1)) ((g + 1 + 1) / 2) c : sProp 𝕄) = at2 k (sl g) (g / 2 + 1) c := by
  rw [sl_succ_succ, half_succ_succ]

variable (κ : GSem nD τ sig → ℕ) (c : Dev nD) (kont : PUnit.{1} → P F) (Q : PUnit.{1} → sProp (MT nD τ sig ℕ (Elt F) ℕ UU ℕ))

theorem sends_at (g : ℕ) (hg : g < 8) :
    iprop(invs PV κ ∗ (holds (accM 0) c (accv PV 0 g c) ∗ net 0 g c) ∗ (holds (accM 1) c (accv PV 1 g c) ∗ net 1 g c) ∗ ow c (owed g c))
      ⊢ iprop(((flying 0 g c ∗ flying 1 g c ∗ ow c (owed (g + 1) c)) -∗ run c (kont ⟨⟩) Q)
          -∗ run c (pSend 0 (sl g) (dst 0 c) >>= fun _ => pSend 1 (sl g) (dst 1 c) >>= kont) Q) := by
  unfold net link out at2
  rw [toks_peel hg, toks_peel hg, if_pos hg, if_pos hg, owed_peel hg]
  unfold tok
  iintro ⟨#HI, ⟨Ha0, Hs0, Hf0, ⟨Hp0, #Hq0, Hu0, #Hv0⟩, ⟨Hw0, #Hx0, Hy0, #Hz0⟩, ⟨⟨Ht0, Hd0⟩, Hc0⟩, Htk0⟩,
    ⟨Ha1, Hs1, Hf1, ⟨Hp1, #Hq1, Hu1, #Hv1⟩, ⟨Hw1, #Hx1, Hy1, #Hz1⟩, ⟨⟨Ht1, Hd1⟩, Hc1⟩, Htk1⟩, HO⟩ Hk
  ihave Hg0 := (give 0 g c) $$ [Hs1]
  · isplitl [Hs1]; · iexact Hs1
    iexact Hz1
  ihave Hg1 := (give 1 g c) $$ [Hs0]
  · isplitl [Hs0]; · iexact Hs0
    iexact Hz0
  icases Hg0 with ⟨Hb0, Hkeep1⟩
  icases Hg1 with ⟨Hb1, Hkeep0⟩
  iapply (send_at PV κ c _ Q 0 g hg (owed (g + 1) c + due 1 g c)) $$ [Ha0 Hf0 Hb0 Ht0 Hd0 HO]
  · isplitr; · iexact HI
    isplitl [Ha0]; · iexact Ha0
    isplitl [Hf0]; · iexact Hf0
    isplitl [Hb0]; · iexact Hb0
    isplitl [Ht0 Hd0]
    · isplitr; · iexact Hq0
      isplitl [Ht0] <;> iassumption
    iexact HO
  iintro ⟨Hcs0, HO⟩
  iapply (send_at PV κ c _ Q 1 g hg (owed (g + 1) c)) $$ [Ha1 Hf1 Hb1 Ht1 Hd1 HO]
  · isplitr; · iexact HI
    isplitl [Ha1]; · iexact Ha1
    isplitl [Hf1]; · iexact Hf1
    isplitl [Hb1]; · iexact Hb1
    isplitl [Ht1 Hd1]
    · isplitr; · iexact Hq1
      isplitl [Ht1] <;> iassumption
    iexact HO
  iintro ⟨Hcs1, HO⟩
  iapply Hk
  unfold flying at2
  isplitl [Hcs0 Hc0 Hkeep0 Hp0 Hu0 Hw0 Hy0 Htk0]
  · isplitl [Hcs0]; · iexact Hcs0
    isplitl [Hc0]; · iexact Hc0
    isplitl [Hkeep0]; · iexact Hkeep0
    isplitl [Hp0]; · iexact Hp0
    isplitl [Hu0]; · iexact Hu0
    isplitl [Hw0 Hy0]
    · isplitl [Hw0]; · iexact Hw0
      isplitr; · iexact Hx0
      isplitl [Hy0]; · iexact Hy0
      iexact Hz0
    iexact Htk0
  isplitl [Hcs1 Hc1 Hkeep1 Hp1 Hu1 Hw1 Hy1 Htk1]
  · isplitl [Hcs1]; · iexact Hcs1
    isplitl [Hc1]; · iexact Hc1
    isplitl [Hkeep1]; · iexact Hkeep1
    isplitl [Hp1]; · iexact Hp1
    isplitl [Hu1]; · iexact Hu1
    isplitl [Hw1 Hy1]
    · isplitl [Hw1]; · iexact Hw1
      isplitr; · iexact Hx1
      isplitl [Hy1]; · iexact Hy1
      iexact Hz1
    iexact Htk1
  iexact HO

/-- One direction's two waits: the sum is back, the neighbour's has come, and with it what it gave. -/
def landed (k : Fin 2) (g : ℕ) (c : Dev nD) : sProp 𝕄 :=
  iprop(holds (accM k) c (accv PV k g c) ∗ holds (slotM k (sl g)) c (accv PV k g (src k c)) ∗ back k g c ∗ keep k g c
    ∗ at2 k (sl (g + 1)) ((g + 1) / 2) c ∗ at2 k (sl (g + 1 + 1)) ((g + 1 + 1) / 2) c ∗ toks k (g + 1) c)

theorem wait_at (k : Fin 2) (g : ℕ) (hg : g < 8) :
    iprop(invs PV κ ∗ levAts L lv ∗ flying k g c ∗ ow c (owed (g + 1) c))
      ⊢ iprop(((landed PV k g c ∗ ow c (owed (g + 1) c)) -∗ run c (kont ⟨⟩) Q)
          -∗ run c (pSent k (sl g) >>= fun _ => pRecv k (sl g) >>= kont) Q) := by
  unfold flying
  iintro ⟨#HI, #Hlev, ⟨Hcs, Hcr, Hkeep, Hp, Hu, Hat, Htk⟩, HO⟩ Hk
  iapply (sent_at PV κ c _ Q k g hg) $$ [Hcs HO Hp]
  · isplitr; · iexact HI
    isplitr; · iexact Hlev
    isplitl [Hcs]; · iexact Hcs
    isplitl [HO] <;> iassumption
  iintro ⟨HO, Hp, Hp', Ha⟩
  iapply (recv_at PV κ c _ Q k g hg) $$ [Hcr HO Hu]
  · isplitr; · iexact HI
    isplitr; · iexact Hlev
    isplitl [Hcr]; · iexact Hcr
    isplitl [HO] <;> iassumption
  iintro ⟨HO, Hu, Hu', Hs, Hb⟩
  iapply Hk
  isplitr [HO]
  · unfold landed
    rw [at2_next]
    isplitl [Ha]; · iexact Ha
    isplitl [Hs]; · iexact Hs
    isplitl [Hb]; · iexact Hb
    isplitl [Hkeep]; · iexact Hkeep
    isplitl [Hat]; · iexact Hat
    isplitl [Hp Hp' Hu Hu']
    · unfold at2
      isplitl [Hp]; · iexact Hp
      isplitl [Hp']; · iexact Hp'
      isplitl [Hu] <;> iassumption
    iexact Htk
  iexact HO

/-- Both directions have landed: each has what the other's message gave. -/
theorem exchange (g : ℕ) :
    iprop(landed PV 0 g c ∗ landed PV 1 g c)
      ⊢ iprop((holds (accM 0) c (accv PV 0 g c) ∗ holds (slotM 0 (sl g)) c (accv PV 0 g (src 0 c)) ∗ link 0 (g + 1) c)
          ∗ (holds (accM 1) c (accv PV 1 g c) ∗ holds (slotM 1 (sl g)) c (accv PV 1 g (src 1 c)) ∗ link 1 (g + 1) c)) := by
  unfold landed link
  iintro ⟨⟨Ha0, Hs0, Hb0, Hk0, Hx0, Hy0, Ht0⟩, ⟨Ha1, Hs1, Hb1, Hk1, Hx1, Hy1, Ht1⟩⟩
  isplitl [Ha0 Hs0 Hb1 Hk0 Hx0 Hy0 Ht0]
  · isplitl [Ha0]; · iexact Ha0
    isplitl [Hs0]; · iexact Hs0
    isplitl [Hb1 Hk0]
    · iapply (get 0 g c)
      isplitl [Hb1]; · iexact Hb1
      iexact Hk0
    isplitl [Hx0]; · iexact Hx0
    isplitl [Hy0] <;> iassumption
  isplitl [Ha1]; · iexact Ha1
  isplitl [Hs1]; · iexact Hs1
  isplitl [Hb0 Hk1]
  · iapply (get 1 g c)
    isplitl [Hb0]; · iexact Hb0
    iexact Hk1
  isplitl [Hx1]; · iexact Hx1
  isplitl [Hy1] <;> iassumption

theorem net_of (k : Fin 2) (g : ℕ) (v : Vec F S1024x2048 .bf16) :
    iprop(holds (slotM k (sl g)) c v ∗ link k (g + 1) c) ⊢ (net k (g + 1) c : sProp 𝕄) := by
  unfold net
  iintro ⟨Hs, Hl⟩
  isplitl [Hs]
  · rw [sl_succ_succ]; iapply (holds_any _ c v) $$ Hs
  iexact Hl

/-! ## The steps -/

/-- What a direction loads with. -/
def feed (k : Fin 2) (c : Dev nD) : sProp 𝕄 := iprop(ptP PV c k ∗ semVal ((c : Thread nD τ), SemLoc.dma (ldS k)) 0)
/-- A direction before message `g` of the reduction. -/
def dir (k : Fin 2) (g : ℕ) (c : Dev nD) : sProp 𝕄 :=
  iprop(holds (accM k) c (accv PV k g c) ∗ net k g c ∗ anyAt (loadM k) c ∗ feed PV k c)

theorem accv_succ (k : Fin 2) (g : ℕ) (h : g % 4 < 3) :
    accv PV k (g + 1) c = addf (φ := .bf16) (pblk PV k (ps g) ((src k)^[g % 4 + 1] c) c) (accv PV k g (src k c)) := by
  unfold accv
  rw [show (g + 1) % 4 = g % 4 + 1 by omega, show ps (g + 1) = ps g by unfold ps; by_cases h' : g < 4 <;> [rw [if_pos h', if_pos (by omega)]; rw [if_neg h', if_neg (by omega)]]]
  rfl

theorem first_at (q : Fin 2) (g : ℕ) :
    iprop(levAts L lv ∗ (anyAt (accM 0) c ∗ feed PV 0 c) ∗ (anyAt (accM 1) c ∗ feed PV 1 c) ∗ ow c (owed g c))
      ⊢ iprop((((holds (accM 0) c (pblk PV 0 q c c) ∗ feed PV 0 c) ∗ (holds (accM 1) c (pblk PV 1 q c c) ∗ feed PV 1 c) ∗ ow c (owed g c)) -∗ run c (kont ⟨⟩) Q)
          -∗ run c (pFirst (blk 0 q c) (blk 1 q c) >>= kont) Q) := by
  unfold pFirst feed
  simp only [bind_assoc]
  iintro ⟨#Hlev, ⟨Ha0, Hp0, Hv0⟩, ⟨Ha1, Hp1, Hv1⟩, HO⟩ Hk
  iapply (ld_at PV c _ Q 0 (accM 0) (acw 0) (N_acc 0) (blk 0 q c)) $$ [Hp0 Ha0 Hv0]
  · isplitl [Hp0]; · iexact Hp0
    isplitl [Ha0] <;> iassumption
  iintro H0
  iapply (ld_at PV c _ Q 1 (accM 1) (acw 1) (N_acc 1) (blk 1 q c)) $$ [Hp1 Ha1 Hv1]
  · isplitl [Hp1]; · iexact Hp1
    isplitl [Ha1] <;> iassumption
  iintro H1
  iapply (ldW_at PV c _ Q 0 (accM 0) (acw 0) (N_acc 0) (blk 0 q c) g) $$ [H0 HO]
  · isplitr; · iexact Hlev
    isplitl [H0] <;> iassumption
  iintro ⟨Ha0, Hp0, Hv0, HO⟩
  iapply (ldW_at PV c _ Q 1 (accM 1) (acw 1) (N_acc 1) (blk 1 q c) g) $$ [H1 HO]
  · isplitr; · iexact Hlev
    isplitl [H1] <;> iassumption
  iintro ⟨Ha1, Hp1, Hv1, HO⟩
  iapply Hk
  isplitl [Ha0 Hp0 Hv0]
  · isplitl [Ha0]; · iexact Ha0
    isplitl [Hp0] <;> iassumption
  isplitl [Ha1 Hp1 Hv1]
  · isplitl [Ha1]; · iexact Ha1
    isplitl [Hp1] <;> iassumption
  iexact HO

theorem rs_at (s : Fin 2) (g : ℕ) (hs : s = sl g) (hg : g < 8) (h3 : g % 4 < 3) (b b' : Blk)
    (hb : b = blk 0 (ps g) ((src 0)^[g % 4 + 1] c)) (hb' : b' = blk 1 (ps g) ((src 1)^[g % 4 + 1] c)) :
    iprop(invs PV κ ∗ levAts L lv ∗ dir PV 0 g c ∗ dir PV 1 g c ∗ ow c (owed g c))
      ⊢ iprop(((dir PV 0 (g + 1) c ∗ dir PV 1 (g + 1) c ∗ ow c (owed (g + 1) c)) -∗ run c (kont ⟨⟩) Q)
          -∗ run c (pRs s (dst 0 c) (dst 1 c) b b' >>= kont) Q) := by
  subst hs hb hb'
  unfold pRs dir feed
  simp only [bind_assoc]
  iintro ⟨#HI, #Hlev, ⟨Ha0, Hn0, Hl0, Hp0, Hv0⟩, ⟨Ha1, Hn1, Hl1, Hp1, Hv1⟩, HO⟩ Hk
  iapply (sends_at PV κ c _ Q g hg) $$ [Ha0 Hn0 Ha1 Hn1 HO]
  · isplitr; · iexact HI
    isplitl [Ha0 Hn0]; · isplitl [Ha0] <;> iassumption
    isplitl [Ha1 Hn1]; · isplitl [Ha1] <;> iassumption
    iexact HO
  iintro ⟨Hf0, Hf1, HO⟩
  iapply (ld_at PV c _ Q 0 (loadM 0) (ldw 0) (N_load 0) _) $$ [Hp0 Hl0 Hv0]
  · isplitl [Hp0]; · iexact Hp0
    isplitl [Hl0] <;> iassumption
  iintro H0
  iapply (ld_at PV c _ Q 1 (loadM 1) (ldw 1) (N_load 1) _) $$ [Hp1 Hl1 Hv1]
  · isplitl [Hp1]; · iexact Hp1
    isplitl [Hl1] <;> iassumption
  iintro H1
  iapply (wait_at PV κ c _ Q 0 g hg) $$ [Hf0 HO]
  · isplitr; · iexact HI
    isplitr; · iexact Hlev
    isplitl [Hf0] <;> iassumption
  iintro ⟨Hf0, HO⟩
  iapply (wait_at PV κ c _ Q 1 g hg) $$ [Hf1 HO]
  · isplitr; · iexact HI
    isplitr; · iexact Hlev
    isplitl [Hf1] <;> iassumption
  iintro ⟨Hf1, HO⟩
  ihave Hx := (exchange PV c g) $$ [Hf0 Hf1]
  · isplitl [Hf0] <;> iassumption
  icases Hx with ⟨⟨Ha0, Hs0, Hn0⟩, ⟨Ha1, Hs1, Hn1⟩⟩
  iapply (ldW_at PV c _ Q 0 (loadM 0) (ldw 0) (N_load 0) _ (g + 1)) $$ [H0 HO]
  · isplitr; · iexact Hlev
    isplitl [H0] <;> iassumption
  iintro ⟨Hl0, Hp0, Hv0, HO⟩
  iapply (ldW_at PV c _ Q 1 (loadM 1) (ldw 1) (N_load 1) _ (g + 1)) $$ [H1 HO]
  · isplitr; · iexact Hlev
    isplitl [H1] <;> iassumption
  iintro ⟨Hl1, Hp1, Hv1, HO⟩
  iapply (add_at c _ Q 0 (sl g) _ _) $$ [Hl0 Hs0 Ha0]
  · isplitl [Hl0]; · iexact Hl0
    isplitl [Hs0]; · iexact Hs0
    iapply (holds_any _ c _) $$ Ha0
  iintro ⟨Hl0, Hs0, Ha0⟩
  iapply (add_at c _ Q 1 (sl g) _ _) $$ [Hl1 Hs1 Ha1]
  · isplitl [Hl1]; · iexact Hl1
    isplitl [Hs1]; · iexact Hs1
    iapply (holds_any _ c _) $$ Ha1
  iintro ⟨Hl1, Hs1, Ha1⟩
  iapply Hk
  rw [accv_succ PV c 0 g h3, accv_succ PV c 1 g h3]
  isplitl [Ha0 Hs0 Hn0 Hl0 Hp0 Hv0]
  · isplitl [Ha0]; · iexact Ha0
    isplitl [Hs0 Hn0]
    · iapply (net_of c 0 g _)
      isplitl [Hs0] <;> iassumption
    isplitl [Hl0]; · iapply (holds_any _ c _) $$ Hl0
    isplitl [Hp0] <;> iassumption
  isplitl [Ha1 Hs1 Hn1 Hl1 Hp1 Hv1]
  · isplitl [Ha1]; · iexact Ha1
    isplitl [Hs1 Hn1]
    · iapply (net_of c 1 g _)
      isplitl [Hs1] <;> iassumption
    isplitl [Hl1]; · iapply (holds_any _ c _) $$ Hl1
    isplitl [Hp1] <;> iassumption
  iexact HO

/-- A direction's columns of the result, and the semaphore it stores with. -/
def sink (k : Fin 2) (S : Finset (Idx (oM.view.loc (c : Thread nD τ)))) (f : Buf (Elt F) (oM.view.loc (c : Thread nD τ))) : sProp 𝕄 :=
  iprop(ptO c S f ∗ semVal ((c : Thread nD τ), SemLoc.dma (stS k)) 0)

theorem store_at (M M' : Memref sig .tc .vmem S1024x2048 .bf16) (h : M.view.WordExact) (h' : M'.view.WordExact) (b b' : Blk)
    (v v' : Vec F S1024x2048 .bf16) (S S' : Finset (Idx (oM.view.loc (c : Thread nD τ)))) (f f' : Buf (Elt F) (oM.view.loc (c : Thread nD τ)))
    (hS : (cut oM b).view.set ⊆ S) (hS' : (cut oM b').view.set ⊆ S') (g : ℕ) :
    iprop(levAts L lv ∗ (holds M c v ∗ sink c 0 S f) ∗ (holds M' c v' ∗ sink c 1 S' f') ∗ ow c (owed g c))
      ⊢ iprop((((holds M c v ∗ sink c 0 S ((cut oM b).view.write (Elt F) f v Finset.univ))
            ∗ (holds M' c v' ∗ sink c 1 S' ((cut oM b').view.write (Elt F) f' v' Finset.univ)) ∗ ow c (owed g c)) -∗ run c (kont ⟨⟩) Q)
          -∗ run c (pStore M M' h h' b b' >>= kont) Q) := by
  unfold pStore sink
  simp only [bind_assoc]
  iintro ⟨#Hlev, ⟨Ha0, Ho0, Hv0⟩, ⟨Ha1, Ho1, Hv1⟩, HO⟩ Hk
  iapply (st_at c _ Q 0 M h b v S f hS) $$ [Ha0 Ho0 Hv0]
  · isplitl [Ha0]; · iexact Ha0
    isplitl [Ho0] <;> iassumption
  iintro H0
  iapply (st_at c _ Q 1 M' h' b' v' S' f' hS') $$ [Ha1 Ho1 Hv1]
  · isplitl [Ha1]; · iexact Ha1
    isplitl [Ho1] <;> iassumption
  iintro H1
  iapply (stW_at c _ Q 0 M h b v S f g) $$ [H0 HO]
  · isplitr; · iexact Hlev
    isplitl [H0] <;> iassumption
  iintro ⟨Ha0, Ho0, Hv0, HO⟩
  iapply (stW_at c _ Q 1 M' h' b' v' S' f' g) $$ [H1 HO]
  · isplitr; · iexact Hlev
    isplitl [H1] <;> iassumption
  iintro ⟨Ha1, Ho1, Hv1, HO⟩
  iapply Hk
  isplitl [Ha0 Ho0 Hv0]
  · isplitl [Ha0]; · iexact Ha0
    isplitl [Ho0] <;> iassumption
  isplitl [Ha1 Ho1 Hv1]
  · isplitl [Ha1]; · iexact Ha1
    isplitl [Ho1] <;> iassumption
  iexact HO

theorem ag_at (s : Fin 2) (g : ℕ) (hs : s = sl g) (hg : g < 8) :
    iprop(invs PV κ ∗ levAts L lv ∗ (holds (accM 0) c (accv PV 0 g c) ∗ net 0 g c) ∗ (holds (accM 1) c (accv PV 1 g c) ∗ net 1 g c) ∗ ow c (owed g c))
      ⊢ iprop((((holds (accM 0) c (accv PV 0 g c) ∗ holds (slotM 0 s) c (accv PV 0 g (src 0 c)) ∗ link 0 (g + 1) c)
            ∗ (holds (accM 1) c (accv PV 1 g c) ∗ holds (slotM 1 s) c (accv PV 1 g (src 1 c)) ∗ link 1 (g + 1) c)
            ∗ ow c (owed (g + 1) c)) -∗ run c (kont ⟨⟩) Q)
          -∗ run c (pAg s (dst 0 c) (dst 1 c) >>= kont) Q) := by
  subst hs
  unfold pAg
  simp only [bind_assoc]
  iintro ⟨#HI, #Hlev, H0, H1, HO⟩ Hk
  iapply (sends_at PV κ c _ Q g hg) $$ [H0 H1 HO]
  · isplitr; · iexact HI
    isplitl [H0]; · iexact H0
    isplitl [H1] <;> iassumption
  iintro ⟨Hf0, Hf1, HO⟩
  iapply (wait_at PV κ c _ Q 0 g hg) $$ [Hf0 HO]
  · isplitr; · iexact HI
    isplitr; · iexact Hlev
    isplitl [Hf0] <;> iassumption
  iintro ⟨Hf0, HO⟩
  iapply (wait_at PV κ c _ Q 1 g hg) $$ [Hf1 HO]
  · isplitr; · iexact HI
    isplitr; · iexact Hlev
    isplitl [Hf1] <;> iassumption
  iintro ⟨Hf1, HO⟩
  ihave Hx := (exchange PV c g) $$ [Hf0 Hf1]
  · isplitl [Hf0] <;> iassumption
  icases Hx with ⟨Hx0, Hx1⟩
  iapply Hk
  isplitl [Hx0]; · iexact Hx0
  isplitl [Hx1] <;> iassumption

/-! ## A pass -/

/-- A direction between passes. -/
def idle (k : Fin 2) (g : ℕ) (S : Finset (Idx (oM.view.loc (c : Thread nD τ)))) (f : Buf (Elt F) (oM.view.loc (c : Thread nD τ))) : sProp 𝕄 :=
  iprop(anyAt (accM k) c ∗ anyAt (loadM k) c ∗ feed PV k c ∗ net k g c ∗ sink c k S f)

/-- What a pass stores: the direction's finished sums of two row blocks. -/
def stored (k q : Fin 2) (f : Buf (Elt F) (oM.view.loc (c : Thread nD τ))) : Buf (Elt F) (oM.view.loc (c : Thread nD τ)) :=
  (cut oM (blk k q c)).view.write (Elt F) ((cut oM (blk k q (dst k c))).view.write (Elt F) f (rsv PV k q 3 c) Finset.univ) (rsv PV k q 3 (src k c)) Finset.univ

theorem src3 : ∀ (k : Fin 2) (d : Dev nD), dst k d = (src k)^[3] d := by decide

theorem ps_mul (q : Fin 2) : ∀ i, i < 4 → ps (4 * q.val + i) = q := by
  intro i hi
  unfold ps
  fin_cases q
  · exact if_pos (by dsimp; omega)
  · exact if_neg (by dsimp; omega)
theorem sl_mul (q : Fin 2) (i : ℕ) : sl (4 * q.val + i) = sl i := by
  unfold sl; ext; show (4 * q.val + i) % 2 = i % 2; omega
theorem accv_mul (k q : Fin 2) (i : ℕ) (hi : i < 4) (d : Dev nD) : accv PV k (4 * q.val + i) d = rsv PV k q i d := by
  unfold accv; rw [ps_mul q i hi, show (4 * q.val + i) % 4 = i by omega]

theorem pass_at (q : Fin 2) (g : ℕ) (hgq : g = 4 * q.val) (S S' : Finset (Idx (oM.view.loc (c : Thread nD τ)))) (f f' : Buf (Elt F) (oM.view.loc (c : Thread nD τ)))
    (hS : ∀ r, (cut oM (blk 0 q r)).view.set ⊆ S) (hS' : ∀ r, (cut oM (blk 1 q r)).view.set ⊆ S') :
    iprop(invs PV κ ∗ levAts L lv ∗ idle PV c 0 g S f ∗ idle PV c 1 g S' f' ∗ ow c (owed g c))
      ⊢ iprop(((idle PV c 0 (g + 4) S (stored PV c 0 q f) ∗ idle PV c 1 (g + 4) S' (stored PV c 1 q f') ∗ ow c (owed (g + 4) c)) -∗ run c (kont ⟨⟩) Q)
          -∗ run c (pPassAt c q >>= kont) Q) := by
  have hq : g + 3 < 8 := by omega
  have hps : ∀ i, i < 4 → ps (g + i) = q := fun i hi => by rw [hgq]; exact ps_mul q i hi
  have hsl : ∀ i, sl (g + i) = sl i := fun i => by rw [hgq]; exact sl_mul q i
  have hm : ∀ i, i < 4 → (g + i) % 4 = i := fun i hi => by omega
  have hv : ∀ k d, accv PV k (g + 3) d = rsv PV k q 3 d := fun k d => by rw [hgq]; exact accv_mul PV k q 3 (by decide) d
  have hv0 : ∀ k, pblk PV k q c c = accv PV k g c := fun k => by
    rw [show g = 4 * q.val + 0 from hgq, accv_mul PV k q 0 (by decide) c]; rfl
  have s0 : (0 : Fin 2) = sl g := (hsl 0).symm
  have s1 : (1 : Fin 2) = sl (g + 1) := (hsl 1).symm
  have s2 : (0 : Fin 2) = sl (g + 2) := (hsl 2).symm
  have s3 : (1 : Fin 2) = sl (g + 3) := (hsl 3).symm
  have e0 : ps g = q := hps 0 (by decide)
  have e1 : ps (g + 1) = q := hps 1 (by decide)
  have e2 : ps (g + 2) = q := hps 2 (by decide)
  have m0 : g % 4 = 0 := hm 0 (by decide)
  have m1 : (g + 1) % 4 = 1 := hm 1 (by decide)
  have m2 : (g + 2) % 4 = 2 := hm 2 (by decide)
  clear hgq hps hsl hm
  unfold pPassAt pPass idle
  simp only [bind_assoc]
  iintro ⟨#HI, #Hlev, ⟨Ha0, Hl0, Hf0, Hn0, Hk0⟩, ⟨Ha1, Hl1, Hf1, Hn1, Hk1⟩, HO⟩ Hk
  iapply (first_at PV c _ Q q g) $$ [Ha0 Hf0 Ha1 Hf1 HO]
  · isplitr; · iexact Hlev
    isplitl [Ha0 Hf0]; · isplitl [Ha0] <;> iassumption
    isplitl [Ha1 Hf1]; · isplitl [Ha1] <;> iassumption
    iexact HO
  rw [hv0 0, hv0 1]
  iintro ⟨⟨Ha0, Hf0⟩, ⟨Ha1, Hf1⟩, HO⟩
  iapply (rs_at PV κ c _ Q 0 g s0 (by omega) (by omega) _ _ (by rw [e0, m0]; rfl) (by rw [e0, m0]; rfl)) $$ [Ha0 Hn0 Hl0 Hf0 Ha1 Hn1 Hl1 Hf1 HO]
  · isplitr; · iexact HI
    isplitr; · iexact Hlev
    unfold dir
    isplitl [Ha0 Hn0 Hl0 Hf0]
    · isplitl [Ha0]; · iexact Ha0
      isplitl [Hn0]; · iexact Hn0
      isplitl [Hl0] <;> iassumption
    isplitl [Ha1 Hn1 Hl1 Hf1]
    · isplitl [Ha1]; · iexact Ha1
      isplitl [Hn1]; · iexact Hn1
      isplitl [Hl1] <;> iassumption
    iexact HO
  iintro ⟨H0, H1, HO⟩
  iapply (rs_at PV κ c _ Q 1 (g + 1) s1 (by omega) (by omega) _ _ (by rw [e1, m1]; rfl) (by rw [e1, m1]; rfl)) $$ [H0 H1 HO]
  · isplitr; · iexact HI
    isplitr; · iexact Hlev
    isplitl [H0]; · iexact H0
    isplitl [H1] <;> iassumption
  iintro ⟨H0, H1, HO⟩
  iapply (rs_at PV κ c _ Q 0 (g + 2) s2 (by omega) (by omega) _ _ (by rw [e2, m2]; exact congrArg _ (src3 0 c)) (by rw [e2, m2]; exact congrArg _ (src3 1 c))) $$ [H0 H1 HO]
  · isplitr; · iexact HI
    isplitr; · iexact Hlev
    isplitl [H0]; · iexact H0
    isplitl [H1] <;> iassumption
  unfold dir
  iintro ⟨⟨Ha0, Hn0, Hl0, Hf0⟩, ⟨Ha1, Hn1, Hl1, Hf1⟩, HO⟩
  iapply (store_at c _ Q (accM 0) (accM 1) (acw 0) (acw 1) _ _ _ _ S S' f f' (hS _) (hS' _) (g + 3)) $$ [Ha0 Hk0 Ha1 Hk1 HO]
  · isplitr; · iexact Hlev
    isplitl [Ha0 Hk0]; · isplitl [Ha0] <;> iassumption
    isplitl [Ha1 Hk1]; · isplitl [Ha1] <;> iassumption
    iexact HO
  iintro ⟨⟨Ha0, Hk0⟩, ⟨Ha1, Hk1⟩, HO⟩
  iapply (ag_at PV κ c _ Q 1 (g + 3) s3 hq) $$ [Ha0 Hn0 Ha1 Hn1 HO]
  · isplitr; · iexact HI
    isplitr; · iexact Hlev
    isplitl [Ha0 Hn0]; · isplitl [Ha0] <;> iassumption
    isplitl [Ha1 Hn1]; · isplitl [Ha1] <;> iassumption
    iexact HO
  iintro ⟨⟨Ha0, Hs0, Hn0⟩, ⟨Ha1, Hs1, Hn1⟩, HO⟩
  iapply (store_at c _ Q (slotM 0 1) (slotM 1 1) (slotM_words 0 1) (slotM_words 1 1) _ _ _ _ S S' _ _ (hS _) (hS' _) (g + 4)) $$ [Hs0 Hk0 Hs1 Hk1 HO]
  · isplitr; · iexact Hlev
    isplitl [Hs0 Hk0]
    · isplitl [Hs0]; · iexact Hs0
      iexact Hk0
    isplitl [Hs1 Hk1]
    · isplitl [Hs1]; · iexact Hs1
      iexact Hk1
    iexact HO
  iintro ⟨⟨Hs0, Hk0⟩, ⟨Hs1, Hk1⟩, HO⟩
  iapply Hk
  unfold stored
  rw [← hv 0 c, ← hv 1 c, ← hv 0 (src 0 c), ← hv 1 (src 1 c)]
  isplitl [Ha0 Hs0 Hn0 Hl0 Hf0 Hk0]
  · isplitl [Ha0]; · iapply (holds_any _ c _) $$ Ha0
    isplitl [Hl0]; · iexact Hl0
    isplitl [Hf0]; · iexact Hf0
    isplitl [Hs0 Hn0]
    · iapply (net_of c 0 (g + 3) _)
      rw [← s3]
      isplitl [Hs0] <;> iassumption
    iexact Hk0
  isplitl [Ha1 Hs1 Hn1 Hl1 Hf1 Hk1]
  · isplitl [Ha1]; · iapply (holds_any _ c _) $$ Ha1
    isplitl [Hl1]; · iexact Hl1
    isplitl [Hf1]; · iexact Hf1
    isplitl [Hs1 Hn1]
    · iapply (net_of c 1 (g + 3) _)
      rw [← s3]
      isplitl [Hs1] <;> iassumption
    iexact Hk1
  iexact HO

end Cert.KernelIdeal.Ring

end
-- ==== Proof.KernelIdeal.RingRun.lean ====
/- The whole ring kernel on one device: from its cells just opened to their counters closed. -/
module

public import proofs.«01_k».proof.Proof.KernelIdeal.RingSteps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (PV : Parts F)
variable (κ : GSem nD τ sig → ℕ) (c : Dev nD) (kont : PUnit.{1} → P F) (Q : PUnit.{1} → sProp (MT nD τ sig ℕ (Elt F) ℕ UU ℕ))

/-! ## The barrier -/

/-- What the barrier takes. -/
def gate : sProp 𝕄 :=
  iprop(atPos ER (barCell c) 0 ∅ 0 ∗ (reached ER (barCell (dst 1 c)) 0 ∗ reached ER (barCell (dst 0 c)) 0)
    ∗ (dutyTok ER (barCell (dst 1 c)) 0 0 ∗ dutyTok ER (barCell (dst 0 c)) 0 1) ∗ cred (tallyAt (barCell c) 0 2))

theorem bar_at :
    iprop(invs PV κ ∗ levAts L lv ∗ gate c ∗ (anyAt (slotM 0 0) c ∗ reached ER (rcvCell 0 0 c) 0) ∗ (anyAt (slotM 1 0) c ∗ reached ER (rcvCell 1 0 c) 0) ∗ ow c (O₀ c))
      ⊢ iprop(((atPos ER (barCell c) 1 ∅ 0 ∗ free 0 0 c ∗ free 1 0 c ∗ ow c (owed 0 c)) -∗ run c (kont ⟨⟩) Q)
          -∗ run c (pBar (dst 1 c) (dst 0 c) >>= kont) Q) := by
  unfold gate ow O₀ pBar
  simp only [bind_assoc]
  iintro ⟨#HI, #Hlev, ⟨Hat, ⟨#Hr1, #Hr0⟩, ⟨Ht1, Ht0⟩, Hc⟩, ⟨Hs0, #Hv0⟩, ⟨Hs1, #Hv1⟩, ⟨%W, HO⟩⟩ Hk
  iapply (Rounds.wp_signal 𝒱₀ ER (ringRd PV) (c : Thread nD τ) none (dst := (dst 1 c : Thread nD τ)) (sem := barS) (r := 0) (d := 0) (κ := κ (barCell (dst 1 c)))
      (by rw [duties_bar]; exact Finset.mem_univ _) (amount_bar PV (dst 1 c) 0 0) 0 (owed 0 c + tallyAt (barCell (dst 0 c)) 0 1) rfl (W := W)) $$ [HO Ht1 Hs0]
  · isplitr; · iapply (inv_at PV κ (bar_mem (dst 1 c))); iexact HI
    isplitl [HO]; · iexact HO
    isplitl [Ht1]; · iexact Ht1
    isplitl [Hs0]
    · rw [payload_bar]; unfold free
      rw [show dst 0 (dst 1 c) = c from (dst_src 0 c)]
      isplitl [Hs0]; · iexact Hs0
      iexact Hv0
    iexact Hr1
  iintro HO
  iapply (Rounds.wp_signal 𝒱₀ ER (ringRd PV) (c : Thread nD τ) none (dst := (dst 0 c : Thread nD τ)) (sem := barS) (r := 0) (d := 1) (κ := κ (barCell (dst 0 c)))
      (by rw [duties_bar]; exact Finset.mem_univ _) (amount_bar PV (dst 0 c) 0 1) 0 (owed 0 c) rfl (W := W)) $$ [HO Ht0 Hs1]
  · isplitr; · iapply (inv_at PV κ (bar_mem (dst 0 c))); iexact HI
    isplitl [HO]; · iexact HO
    isplitl [Ht0]; · iexact Ht0
    isplitl [Hs1]
    · rw [payload_bar]; unfold free
      rw [show dst 1 (dst 0 c) = c from (dst_src 1 c)]
      isplitl [Hs1]; · iexact Hs1
      iexact Hv1
    iexact Hr0
  iintro HO
  iapply (Rounds.wp_wait_rest_token 𝒱₀ ER (ringRd PV) (c : Thread nD τ) none (κ := κ (barCell c))
      (wpE_semWait_eq 𝒱₀ (c : Thread nD τ) none Set.univ) (Set.mem_univ _) 0 (O := owed 0 c) (W := W) (R := 0) (m := 0) (T := ∅)
      ((Nat.zero_add 2).trans (expect_bar PV c).symm)) $$ [Hc HO Hat]
  · isplitr; · iapply (inv_at PV κ (bar_mem c)); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar PV c)) $$ Hpay
  icases Hp with ⟨Hf0, Hf1⟩
  iapply Hk
  isplitl [Hat]; · iexact Hat
  isplitl [Hf0]; · iexact Hf0
  isplitl [Hf1]; · iexact Hf1
  iexists _; iexact HO

/-! ## The whole run -/

/-- A direction's cells just opened; its cells closed. -/
def fresh (k : Fin 2) (c : Dev nD) : sProp 𝕄 := iprop(at2 k 0 0 c ∗ at2 k 1 0 c ∗ toks k 0 c)
def spent (k : Fin 2) (c : Dev nD) : sProp 𝕄 :=
  iprop((semVal (sndCell k 0 c) 0 ∗ semVal (rcvCell k 0 c) 0) ∗ (semVal (sndCell k 1 c) 0 ∗ semVal (rcvCell k 1 c) 0))
/-- A direction's buffers. -/
def bufsAt (k : Fin 2) (c : Dev nD) : sProp 𝕄 :=
  iprop((anyAt (slotM k 0) c ∗ anyAt (slotM k 1) c) ∗ anyAt (accM k) c ∗ anyAt (loadM k) c)

theorem close2 (k s : Fin 2) : iprop(invs PV κ ∗ at2 k s 4 c) ⊢ (|={Set.univ}=> iprop(semVal (sndCell k s c) 0 ∗ semVal (rcvCell k s c) 0) : sProp 𝕄) := by
  unfold at2
  iintro ⟨#HI, Hp, -, Hu, -⟩
  imod (Rounds.cell_close ER (ringRd PV) (g := sndCell k s c) (κ := κ (sndCell k s c)) (Set.mem_univ _) id (R := 4) (fun r h => duties_snd_later PV c k s r h)) $$ [Hp] with Hs
  · isplitr; · iapply (inv_at PV κ (snd_mem k s c)); iexact HI
    iexact Hp
  imod (Rounds.cell_close ER (ringRd PV) (g := rcvCell k s c) (κ := κ (rcvCell k s c)) (Set.mem_univ _) id (R := 4) (fun r h => duties_rcv_later PV c k s r h)) $$ [Hu] with Hv
  · isplitr; · iapply (inv_at PV κ (rcv_mem k s c)); iexact HI
    iexact Hu
  imodintro
  isplitl [Hs] <;> iassumption

theorem close_bar : iprop(invs PV κ ∗ atPos ER (barCell c) 1 ∅ 0) ⊢ (|={Set.univ}=> semVal (barCell c) 0 : sProp 𝕄) := by
  iintro ⟨#HI, Hp⟩
  iapply (Rounds.cell_close ER (ringRd PV) (g := barCell c) (κ := κ (barCell c)) (Set.mem_univ _) id (R := 1) (fun r h => duties_bar_later PV c r h))
  isplitr; · iapply (inv_at PV κ (bar_mem c)); iexact HI
  iexact Hp

theorem close_net (k : Fin 2) : iprop(invs PV κ ∗ net k 8 c) ⊢ (|={Set.univ}=> iprop(spent k c ∗ anyAt (slotM k 0) c ∗ anyAt (slotM k 1) c) : sProp 𝕄) := by
  unfold net link out
  rw [if_neg (by decide), show sl 8 = 0 from rfl, show sl (8 + 1) = 1 from rfl, show 8 / 2 = 4 from rfl]
  iintro ⟨#HI, Hs1, Hs0, Ha0, Ha1, -⟩
  imod (close2 PV κ c k 0) $$ [Ha0] with Hv0
  · isplitr; · iexact HI
    iexact Ha0
  imod (close2 PV κ c k 1) $$ [Ha1] with Hv1
  · isplitr; · iexact HI
    iexact Ha1
  imodintro
  unfold spent
  isplitl [Hv0 Hv1]; · isplitl [Hv0] <;> iassumption
  isplitl [Hs0] <;> iassumption

variable (S S' : Finset (Idx (oM.view.loc (c : Thread nD τ)))) (f f' : Buf (Elt F) (oM.view.loc (c : Thread nD τ)))

theorem ring_run (hS : ∀ q r, (cut oM (blk 0 q r)).view.set ⊆ S) (hS' : ∀ q r, (cut oM (blk 1 q r)).view.set ⊆ S') :
    iprop(invs PV κ ∗ levAts L lv ∗ gate c ∗ (fresh 0 c ∗ bufsAt 0 c ∗ feed PV 0 c ∗ sink c 0 S f) ∗ (fresh 1 c ∗ bufsAt 1 c ∗ feed PV 1 c ∗ sink c 1 S' f') ∗ ow c (O₀ c))
      ⊢ iprop(((semVal (barCell c) 0 ∗ (spent 0 c ∗ bufsAt 0 c ∗ feed PV 0 c ∗ sink c 0 S (stored PV c 0 1 (stored PV c 0 0 f)))
            ∗ (spent 1 c ∗ bufsAt 1 c ∗ feed PV 1 c ∗ sink c 1 S' (stored PV c 1 1 (stored PV c 1 0 f'))) ∗ ow c 0) -∗ Q ⟨⟩)
          -∗ run c ring Q) := by
  have hl : ∀ k, iprop(free k 0 c ∗ anyAt (slotM k 1) c ∗ fresh k c) ⊢ (net k 0 c : sProp 𝕄) := fun k => by
    unfold net link out fresh
    rw [if_pos (by decide), show sl 0 = 0 from rfl, show sl (0 + 1) = 1 from rfl, show 0 / 2 = 0 from rfl]
    iintro ⟨Hf, Hs, Ha, Hb, Ht⟩
    isplitl [Hs]; · iexact Hs
    isplitl [Hf]; · iexact Hf
    isplitl [Ha]; · iexact Ha
    isplitl [Hb] <;> iassumption
  have hr : ∀ k, (fresh k c : sProp 𝕄) ⊢ iprop(reached ER (rcvCell k 0 c) 0 ∗ fresh k c) := fun k => by
    unfold fresh at2
    iintro ⟨⟨Hp, Hq, Hu, #Hv⟩, Hb, Ht⟩
    isplitr; · iexact Hv
    isplitl [Hp Hq Hu]
    · isplitl [Hp]; · iexact Hp
      isplitl [Hq]; · iexact Hq
      isplitl [Hu]; · iexact Hu
      iexact Hv
    isplitl [Hb] <;> iassumption
  have e : (ring : P F) = Prog.op .deviceId fun d => (pBar (dst 1 d) (dst 0 d) >>= fun _ => pPassAt d 0 >>= fun _ => pPassAt d 1 >>= fun _ => pure ⟨⟩) := by
    unfold ring
    simp only [bind_pure_unit]
    rfl
  rw [e, run, wp_deviceId]
  unfold bufsAt
  iintro ⟨#HI, #Hlev, Hg, ⟨Hc0, ⟨⟨Hs0, Hz0⟩, Ha0, Hl0⟩, Hf0, Ho0⟩, ⟨Hc1, ⟨⟨Hs1, Hz1⟩, Ha1, Hl1⟩, Hf1, Ho1⟩, HO⟩ Hk
  ihave Hc0' := (hr 0) $$ Hc0
  icases Hc0' with ⟨#Hr0, Hc0⟩
  ihave Hc1' := (hr 1) $$ Hc1
  icases Hc1' with ⟨#Hr1, Hc1⟩
  iapply (bar_at PV κ c _ Q) $$ [Hg Hs0 Hs1 HO]
  · isplitr; · iexact HI
    isplitr; · iexact Hlev
    isplitl [Hg]; · iexact Hg
    isplitl [Hs0]
    · isplitl [Hs0]; · iexact Hs0
      iexact Hr0
    isplitl [Hs1]
    · isplitl [Hs1]; · iexact Hs1
      iexact Hr1
    iexact HO
  iintro ⟨Hbar, Hg0, Hg1, HO⟩
  ihave Hn0 := (hl 0) $$ [Hg0 Hz0 Hc0]
  · isplitl [Hg0]; · iexact Hg0
    isplitl [Hz0] <;> iassumption
  ihave Hn1 := (hl 1) $$ [Hg1 Hz1 Hc1]
  · isplitl [Hg1]; · iexact Hg1
    isplitl [Hz1] <;> iassumption
  iapply (pass_at PV κ c _ Q 0 0 rfl S S' f f' (hS 0) (hS' 0)) $$ [Ha0 Hl0 Hf0 Hn0 Ho0 Ha1 Hl1 Hf1 Hn1 Ho1 HO]
  · isplitr; · iexact HI
    isplitr; · iexact Hlev
    unfold idle
    isplitl [Ha0 Hl0 Hf0 Hn0 Ho0]
    · isplitl [Ha0]; · iexact Ha0
      isplitl [Hl0]; · iexact Hl0
      isplitl [Hf0]; · iexact Hf0
      isplitl [Hn0] <;> iassumption
    isplitl [Ha1 Hl1 Hf1 Hn1 Ho1]
    · isplitl [Ha1]; · iexact Ha1
      isplitl [Hl1]; · iexact Hl1
      isplitl [Hf1]; · iexact Hf1
      isplitl [Hn1] <;> iassumption
    iexact HO
  iintro ⟨H0, H1, HO⟩
  iapply (pass_at PV κ c _ Q 1 4 rfl S S' _ _ (hS 1) (hS' 1)) $$ [H0 H1 HO]
  · isplitr; · iexact HI
    isplitr; · iexact Hlev
    isplitl [H0]; · iexact H0
    isplitl [H1]; · iexact H1
    iexact HO
  rw [show 4 + 4 = 8 from rfl, owed_last]
  unfold idle
  iintro ⟨⟨Ha0, Hl0, Hf0, Hn0, Ho0⟩, ⟨Ha1, Hl1, Hf1, Hn1, Ho1⟩, HO⟩
  rw [show (pure ⟨⟩ : P F) = Prog.ret ⟨⟩ from rfl, run, wp_ret]
  imod (close_net PV κ c 0) $$ [Hn0] with ⟨Hsp0, Hs0⟩
  · isplitr; · iexact HI
    iexact Hn0
  imod (close_net PV κ c 1) $$ [Hn1] with ⟨Hsp1, Hs1⟩
  · isplitr; · iexact HI
    iexact Hn1
  imod (close_bar PV κ c) $$ [Hbar] with Hbar
  · isplitr; · iexact HI
    iexact Hbar
  imodintro
  iapply Hk
  isplitl [Hbar]; · iexact Hbar
  isplitl [Hsp0 Hs0 Ha0 Hl0 Hf0 Ho0]
  · isplitl [Hsp0]; · iexact Hsp0
    isplitl [Hs0 Ha0 Hl0]
    · isplitl [Hs0]; · iexact Hs0
      isplitl [Ha0] <;> iassumption
    isplitl [Hf0] <;> iassumption
  isplitl [Hsp1 Hs1 Ha1 Hl1 Hf1 Ho1]
  · isplitl [Hsp1]; · iexact Hsp1
    isplitl [Hs1 Ha1 Hl1]
    · isplitl [Hs1]; · iexact Hs1
      isplitl [Ha1] <;> iassumption
    isplitl [Hf1] <;> iassumption
  iexact HO

end Cert.KernelIdeal.Ring

end
-- ==== Proof.KernelIdeal.RingBufs.lean ====
/- What the ring kernel is given, in the pieces its run names: the scratch buffers by direction and slot, the semaphores by
   what they are for, the partial product by halves, the array of sums by the columns of a direction. -/
module

public import proofs.«01_k».proof.Proof.KernelIdeal.RingRun
public import Idealize.ShloMosaic.Lib.Ring
public import Idealize.ShloMosaic.Lib.Pipeline.Kit

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Scratch buffers -/

/-- A whole buffer at any contents. -/
def whole (c : Dev nD) (r : Ref sig .tc) : sProp 𝕄 :=
  iprop(∃ f : Buf (Elt F) ((c : Thread nD τ).loc r), ((c : Thread nD τ).loc r) ↦{fullShare} f)

theorem whole_acc (c : Dev nD) : ∀ k, (whole c (accR k) : sProp 𝕄) = anyAt (accM k) c := fun
  | 0 => by unfold whole anyAt; rw [show (accM 0).view.set = Finset.univ from View.set_whole _]; rfl
  | 1 => by unfold whole anyAt; rw [show (accM 1).view.set = Finset.univ from View.set_whole _]; rfl
theorem whole_load (c : Dev nD) : ∀ k, (whole c (loadR k) : sProp 𝕄) = anyAt (loadM k) c := fun
  | 0 => by unfold whole anyAt; rw [show (loadM 0).view.set = Finset.univ from View.set_whole _]; rfl
  | 1 => by unfold whole anyAt; rw [show (loadM 1).view.set = Finset.univ from View.set_whole _]; rfl

def slotOff : Fin 2 → Fin 3 → ℕ := fun | 0 => ![0, 0, 0] | 1 => ![1, 0, 0]
theorem slotOff_inb : ∀ b a, slotOff b a + S1x1024x2048.size a ≤ S2x1024x2048.size a := fun
  | 0 => inb_S2x1024x2048_S1x1024x2048_0_0_0 | 1 => inb_S2x1024x2048_S1x1024x2048_1_0_0
def slotSet (b : Fin 2) : Finset S2x1024x2048.Idx := (Rect.unit (s := S2x1024x2048) (slotOff b) S1x1024x2048.size (slotOff_inb b)).set
theorem slotSet_disjoint (b b' : Fin 2) (h : b ≠ b') : Disjoint (slotSet b) (slotSet b') :=
  Idealize.ShloMosaic.Ring.lead_disjoint (s := S2x1024x2048) (0 : Fin 3) 1 slotOff S1x1024x2048.size slotOff_inb (by decide) rfl b b' h
theorem slotSet_cover : Finset.univ.biUnion slotSet = Finset.univ :=
  Idealize.ShloMosaic.Ring.lead_cover (s := S2x1024x2048) (0 : Fin 3) 1 slotOff S1x1024x2048.size slotOff_inb (by decide) (by decide) rfl (by decide) rfl
theorem slot_set00 : (slotM 0 0).view.set = slotSet 0 := (View.set_reshape _ _).trans (View.set_slice_whole cc1_scratch2 _)
theorem any00 (c : Dev nD) : (anyAt (slotM 0 0) c : sProp 𝕄)
    = iprop(∃ f : Buf (Elt F) ((c : Thread nD τ).loc cc1_scratch2), ((c : Thread nD τ).loc cc1_scratch2) ↦[slotSet 0]{fullShare} f) := by
  unfold anyAt; rw [slot_set00]; rfl
theorem slot_set01 : (slotM 0 1).view.set = slotSet 1 := (View.set_reshape _ _).trans (View.set_slice_whole cc1_scratch2 _)
theorem any01 (c : Dev nD) : (anyAt (slotM 0 1) c : sProp 𝕄)
    = iprop(∃ f : Buf (Elt F) ((c : Thread nD τ).loc cc1_scratch2), ((c : Thread nD τ).loc cc1_scratch2) ↦[slotSet 1]{fullShare} f) := by
  unfold anyAt; rw [slot_set01]; rfl
theorem slot_set10 : (slotM 1 0).view.set = slotSet 0 := (View.set_reshape _ _).trans (View.set_slice_whole cc1_scratch5 _)
theorem any10 (c : Dev nD) : (anyAt (slotM 1 0) c : sProp 𝕄)
    = iprop(∃ f : Buf (Elt F) ((c : Thread nD τ).loc cc1_scratch5), ((c : Thread nD τ).loc cc1_scratch5) ↦[slotSet 0]{fullShare} f) := by
  unfold anyAt; rw [slot_set10]; rfl
theorem slot_set11 : (slotM 1 1).view.set = slotSet 1 := (View.set_reshape _ _).trans (View.set_slice_whole cc1_scratch5 _)
theorem any11 (c : Dev nD) : (anyAt (slotM 1 1) c : sProp 𝕄)
    = iprop(∃ f : Buf (Elt F) ((c : Thread nD τ).loc cc1_scratch5), ((c : Thread nD τ).loc cc1_scratch5) ↦[slotSet 1]{fullShare} f) := by
  unfold anyAt; rw [slot_set11]; rfl

theorem two_eq {ℓ : Loc nD τ sig} (I : Fin 2 → Finset (Idx ℓ)) (hd : ∀ b b', b ≠ b' → Disjoint (I b) (I b'))
    (hc : Finset.univ.biUnion I = Finset.univ) (f : Buf (Elt F) ℓ) :
    (ℓ ↦{fullShare} f : sProp 𝕄) = iprop((ℓ ↦[I 0]{fullShare} f) ∗ (ℓ ↦[I 1]{fullShare} f)) := by
  rw [Idealize.ShloMosaic.Ring.pointsTo_blocks I hd hc f, bigSep_fin_two]; rfl
theorem two_split {ℓ : Loc nD τ sig} (I : Fin 2 → Finset (Idx ℓ)) (hd : ∀ b b', b ≠ b' → Disjoint (I b) (I b'))
    (hc : Finset.univ.biUnion I = Finset.univ) :
    (iprop(∃ f : Buf (Elt F) ℓ, ℓ ↦{fullShare} f) : sProp 𝕄) ⊢ iprop((∃ f : Buf (Elt F) ℓ, ℓ ↦[I 0]{fullShare} f) ∗ (∃ f : Buf (Elt F) ℓ, ℓ ↦[I 1]{fullShare} f)) := by
  iintro ⟨%f, H⟩
  ihave H' := (Entails.of_eq (two_eq I hd hc f)) $$ H
  icases H' with ⟨H0, H1⟩
  isplitl [H0]
  · iexists f; iexact H0
  iexists f; iexact H1
theorem two_join {ℓ : Loc nD τ sig} (I : Fin 2 → Finset (Idx ℓ)) (hd : ∀ b b', b ≠ b' → Disjoint (I b) (I b'))
    (hc : Finset.univ.biUnion I = Finset.univ) (f₀ : Buf (Elt F) ℓ) :
    (iprop((∃ f : Buf (Elt F) ℓ, ℓ ↦[I 0]{fullShare} f) ∗ (∃ f : Buf (Elt F) ℓ, ℓ ↦[I 1]{fullShare} f)) : sProp 𝕄) ⊢ iprop(∃ f : Buf (Elt F) ℓ, ℓ ↦{fullShare} f) :=
  (Entails.of_eq (bigSep_fin_two (fun b => iprop(∃ f : Buf (Elt F) ℓ, ℓ ↦[I b]{fullShare} f))).symm).trans (Idealize.ShloMosaic.Ring.pointsTo_blocks_join_exists I hd hc f₀)

theorem slots_split (c : Dev nD) : ∀ k, (whole c (commR k) : sProp 𝕄) ⊢ iprop(anyAt (slotM k 0) c ∗ anyAt (slotM k 1) c) := fun
  | 0 => by rw [any00, any01]; exact two_split (ℓ := (c : Thread nD τ).loc cc1_scratch2) slotSet slotSet_disjoint slotSet_cover
  | 1 => by rw [any10, any11]; exact two_split (ℓ := (c : Thread nD τ).loc cc1_scratch5) slotSet slotSet_disjoint slotSet_cover
theorem slots_join (c : Dev nD) : ∀ k, (iprop(anyAt (slotM k 0) c ∗ anyAt (slotM k 1) c) : sProp 𝕄) ⊢ whole c (commR k) := fun
  | 0 => by
    rw [any00, any01]
    unfold whole
    iintro ⟨⟨%f, H⟩, H'⟩
    iapply (two_join (ℓ := (c : Thread nD τ).loc cc1_scratch2) slotSet slotSet_disjoint slotSet_cover f)
    isplitl [H]; · iexists f; iexact H
    iexact H'
  | 1 => by
    rw [any10, any11]
    unfold whole
    iintro ⟨⟨%f, H⟩, H'⟩
    iapply (two_join (ℓ := (c : Thread nD τ).loc cc1_scratch5) slotSet slotSet_disjoint slotSet_cover f)
    isplitl [H]; · iexists f; iexact H
    iexact H'

/-- The buffers the ring does not touch. -/
def others (c : Dev nD) : sProp 𝕄 :=
  iprop(whole c cc0_stg2_0 ∗ whole c cc0_stg2_1 ∗ whole c cc0_stg3_0 ∗ whole c cc0_stg3_1 ∗ whole c cc0_stg4_0 ∗ whole c cc0_stg4_1
    ∗ whole c cc0_stg0_0 ∗ whole c cc0_stg1_0)

theorem bufs_of_whole (c : Dev nD) (k : Fin 2) : (iprop(whole c (accR k) ∗ whole c (loadR k) ∗ whole c (commR k)) : sProp 𝕄) ⊢ bufsAt k c := by
  rw [whole_acc, whole_load]
  unfold bufsAt
  iintro ⟨Ha, Hl, Hc⟩
  isplitl [Hc]; · iapply (slots_split c k) $$ Hc
  isplitl [Ha]; · iexact Ha
  iexact Hl
theorem whole_of_bufs (c : Dev nD) (k : Fin 2) : (bufsAt k c : sProp 𝕄) ⊢ iprop(whole c (accR k) ∗ whole c (loadR k) ∗ whole c (commR k)) := by
  rw [whole_acc, whole_load]
  unfold bufsAt
  iintro ⟨Hc, Ha, Hl⟩
  isplitl [Ha]; · iexact Ha
  isplitl [Hl]; · iexact Hl
  iapply (slots_join c k) $$ Hc

theorem scoped_eq (c : Dev nD) : (Pipeline.scopedRest cfg1.spec c : sProp 𝕄)
    = iprop(whole c cc0_stg2_0 ∗ whole c cc0_stg2_1 ∗ whole c cc0_stg3_0 ∗ whole c cc0_stg3_1 ∗ whole c cc0_stg4_0 ∗ whole c cc0_stg4_1
        ∗ whole c (accR 0) ∗ whole c (loadR 0) ∗ whole c (commR 0) ∗ whole c (accR 1) ∗ whole c (loadR 1) ∗ whole c (commR 1)
        ∗ whole c cc0_stg0_0 ∗ whole c cc0_stg1_0) :=
  scopedRest1_eq c

theorem scoped_split (c : Dev nD) : (Pipeline.scopedRest cfg1.spec c : sProp 𝕄) ⊢ iprop(others c ∗ bufsAt 0 c ∗ bufsAt 1 c) := by
  rw [scoped_eq]
  unfold others
  iintro ⟨H1, H2, H3, H4, H5, H6, A0, L0, C0, A1, L1, C1, H7, H8⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [A0 L0 C0]
  · iapply (bufs_of_whole c 0)
    isplitl [A0]; · iexact A0
    isplitl [L0]; · iexact L0
    iexact C0
  iapply (bufs_of_whole c 1)
  isplitl [A1]; · iexact A1
  isplitl [L1]; · iexact L1
  iexact C1
theorem scoped_join (c : Dev nD) : (iprop(others c ∗ bufsAt 0 c ∗ bufsAt 1 c) : sProp 𝕄) ⊢ Pipeline.scopedRest cfg1.spec c := by
  rw [scoped_eq]
  unfold others
  iintro ⟨⟨H1, H2, H3, H4, H5, H6, H7, H8⟩, B0, B1⟩
  ihave B0 := (whole_of_bufs c 0) $$ B0
  ihave B1 := (whole_of_bufs c 1) $$ B1
  icases B0 with ⟨A0, L0, C0⟩
  icases B1 with ⟨A1, L1, C1⟩
  isplitl [H1]; · iexact H1
  isplitl [H2]; · iexact H2
  isplitl [H3]; · iexact H3
  isplitl [H4]; · iexact H4
  isplitl [H5]; · iexact H5
  isplitl [H6]; · iexact H6
  isplitl [A0]; · iexact A0
  isplitl [L0]; · iexact L0
  isplitl [C0]; · iexact C0
  isplitl [A1]; · iexact A1
  isplitl [L1]; · iexact L1
  isplitl [C1]; · iexact C1
  isplitl [H7]; · iexact H7
  iexact H8

/-! ## Semaphores -/

/-- The kernel's own semaphores. -/
def osem1 : Fin 12 → SemLoc sig := fun i => .dma (match i with
  | 0 => sndS 0 0 | 1 => sndS 0 1 | 2 => rcvS 0 0 | 3 => rcvS 0 1 | 4 => sndS 1 0 | 5 => sndS 1 1 | 6 => rcvS 1 0 | 7 => rcvS 1 1
  | 8 => ldS 0 | 9 => ldS 1 | 10 => stS 0 | 11 => stS 1)
theorem osem1_facts : Pipeline.OwnSemFacts cfg1.spec osem1 := by decide

/-- The semaphores of the local copies, idle. -/
def idles (k : Fin 2) (c : Dev nD) : sProp 𝕄 := iprop(semVal ((c : Thread nD τ), SemLoc.dma (ldS k)) 0 ∗ semVal ((c : Thread nD τ), SemLoc.dma (stS k)) 0)

theorem ownSems1_eq (c : Dev nD) : (Pipeline.ownSems0 osem1 c : sProp 𝕄)
    = iprop(semVal (sndCell 0 0 c) 0 ∗ semVal (sndCell 0 1 c) 0 ∗ semVal (rcvCell 0 0 c) 0 ∗ semVal (rcvCell 0 1 c) 0
        ∗ semVal (sndCell 1 0 c) 0 ∗ semVal (sndCell 1 1 c) 0 ∗ semVal (rcvCell 1 0 c) 0 ∗ semVal (rcvCell 1 1 c) 0
        ∗ semVal ((c : Thread nD τ), SemLoc.dma (ldS 0)) 0 ∗ semVal ((c : Thread nD τ), SemLoc.dma (ldS 1)) 0
        ∗ semVal ((c : Thread nD τ), SemLoc.dma (stS 0)) 0 ∗ semVal ((c : Thread nD τ), SemLoc.dma (stS 1)) 0) :=
  Pipeline.ownSems0_eq_of_list c osem1 [0, 1, 2, 3, 4, 5, 6, 7, 8, 9, 10, 11] (by decide) (by decide)

theorem sems_split (c : Dev nD) : (Pipeline.ownSems0 osem1 c : sProp 𝕄) ⊢ iprop(spent 0 c ∗ spent 1 c ∗ idles 0 c ∗ idles 1 c) := by
  rw [ownSems1_eq]
  unfold spent idles
  iintro ⟨S00, S01, R00, R01, S10, S11, R10, R11, L0, L1, T0, T1⟩
  isplitl [S00 S01 R00 R01]
  · isplitl [S00 R00]
    · isplitl [S00]; · iexact S00
      iexact R00
    isplitl [S01]; · iexact S01
    iexact R01
  isplitl [S10 S11 R10 R11]
  · isplitl [S10 R10]
    · isplitl [S10]; · iexact S10
      iexact R10
    isplitl [S11]; · iexact S11
    iexact R11
  isplitl [L0 T0]
  · isplitl [L0]; · iexact L0
    iexact T0
  isplitl [L1]; · iexact L1
  iexact T1
theorem sems_join (c : Dev nD) : (iprop(spent 0 c ∗ spent 1 c ∗ idles 0 c ∗ idles 1 c) : sProp 𝕄) ⊢ Pipeline.ownSems0 osem1 c := by
  rw [ownSems1_eq]
  unfold spent idles
  iintro ⟨⟨⟨S00, R00⟩, S01, R01⟩, ⟨⟨S10, R10⟩, S11, R11⟩, ⟨L0, T0⟩, L1, T1⟩
  isplitl [S00]; · iexact S00
  isplitl [S01]; · iexact S01
  isplitl [R00]; · iexact R00
  isplitl [R01]; · iexact R01
  isplitl [S10]; · iexact S10
  isplitl [S11]; · iexact S11
  isplitl [R10]; · iexact R10
  isplitl [R11]; · iexact R11
  isplitl [L0]; · iexact L0
  isplitl [L1]; · iexact L1
  isplitl [T0]; · iexact T0
  iexact T1

/-! ## The partial product and the array of sums -/

/-- The columns of a direction. -/
def colsOf (k : Fin 2) : Finset S4096x8192.Idx := Finset.univ.filter fun i => (i 1).val / 4096 = k.val
theorem colsOf_disjoint (b b' : Fin 2) (h : b ≠ b') : Disjoint (colsOf b) (colsOf b') := by
  rw [Finset.disjoint_left]
  intro i hi hi'
  exact h (Fin.ext ((Finset.mem_filter.mp hi).2.symm.trans (Finset.mem_filter.mp hi').2))
theorem colsOf_cover : Finset.univ.biUnion colsOf = Finset.univ := by
  ext i
  simp only [Finset.mem_biUnion, Finset.mem_univ, true_and, iff_true]
  have := (i 1).isLt
  have h8 : S4096x8192.size 1 = 8192 := rfl
  exact ⟨⟨(i 1).val / 4096, by omega⟩, Finset.mem_filter.mpr ⟨Finset.mem_univ _, rfl⟩⟩

theorem blk_sub (k q : Fin 2) (r : Dev nD) : (cut oM (blk k q r)).view.set ⊆ (colsOf k : Finset S4096x8192.Idx) := by
  intro i hi
  have hi' : i ∈ (Rect.unit (s := S4096x8192) (blk k q r).off S1024x2048.size (blk k q r).inb).set := by
    rw [← View.set_slice_whole main_v2]; exact hi
  have h := Rect.mem_set_unit.mp hi' 1
  rw [blk_off] at h
  obtain ⟨h1, h2⟩ := h
  refine Finset.mem_filter.mpr ⟨Finset.mem_univ _, ?_⟩
  have e1 : (![1024 * r.val, 2048 * (colOf k q).val] : Fin 2 → ℕ) 1 = 2048 * (2 * k.val + q.val) := rfl
  have e2 : S1024x2048.size 1 = 2048 := rfl
  rw [e1] at h1 h2; rw [e2] at h2
  have := q.isLt
  omega

variable (PV : Parts F)

/-- The array of sums after the ring: every direction's columns as that direction leaves them. -/
def joined (c : Dev nD) (f : (main_v2 : Ref sig .tc).ty.Contents (Elt F)) : (main_v2 : Ref sig .tc).ty.Contents (Elt F) :=
  fun i : S4096x8192.Idx => if (i 1).val / 4096 = (0 : Fin 2).val then stored PV c 0 1 (stored PV c 0 0 f) i else stored PV c 1 1 (stored PV c 1 0 f) i

theorem cols_split (c : Dev nD) (f : (main_v2 : Ref sig .tc).ty.Contents (Elt F)) :
    (((c : Thread nD τ).loc main_v2) ↦{fullShare} f : sProp 𝕄) ⊢ iprop(ptO c (colsOf 0) f ∗ ptO c (colsOf 1) f) :=
  Entails.of_eq (two_eq (ℓ := (c : Thread nD τ).loc main_v2) colsOf colsOf_disjoint colsOf_cover f)
theorem cols_all (i : S4096x8192.Idx) : i ∈ colsOf 0 ∨ i ∈ colsOf 1 := by
  have := (i 1).isLt
  have h8 : S4096x8192.size 1 = 8192 := rfl
  by_cases h : (i 1).val / 4096 = 0
  · exact .inl (Finset.mem_filter.mpr ⟨Finset.mem_univ _, h⟩)
  · exact .inr (Finset.mem_filter.mpr ⟨Finset.mem_univ _, (show (i 1).val / 4096 = 1 by omega)⟩)
theorem two_glue {ℓ : Loc nD τ sig} (I J : Finset (Idx ℓ)) (hd : Disjoint I J) (hc : ∀ i, i ∈ I ∨ i ∈ J) (f g h : Buf (Elt F) ℓ)
    (hf : ∀ i ∈ I, h i = f i) (hg : ∀ i ∈ J, h i = g i) :
    (iprop((ℓ ↦[I]{fullShare} f) ∗ (ℓ ↦[J]{fullShare} g)) : sProp 𝕄) ⊢ (ℓ ↦{fullShare} h) := by
  rw [← pointsTo_congr hf, ← pointsTo_congr hg]
  refine (pointsTo_union hd).2.trans (Entails.of_eq ?_)
  rw [show I ∪ J = Finset.univ from Finset.eq_univ_iff_forall.mpr fun i => Finset.mem_union.mpr (hc i)]
theorem cols_join (c : Dev nD) (f : (main_v2 : Ref sig .tc).ty.Contents (Elt F)) :
    (iprop(ptO c (colsOf 0) (stored PV c 0 1 (stored PV c 0 0 f)) ∗ ptO c (colsOf 1) (stored PV c 1 1 (stored PV c 1 0 f))) : sProp 𝕄)
      ⊢ (((c : Thread nD τ).loc main_v2) ↦{fullShare} joined PV c f : sProp 𝕄) :=
  two_glue (ℓ := (c : Thread nD τ).loc main_v2) (colsOf 0) (colsOf 1) (colsOf_disjoint 0 1 (by decide)) cols_all _ _ _
    (fun i hi => if_pos (Finset.mem_filter.mp hi).2)
    (fun i hi => if_neg (by rw [(Finset.mem_filter.mp hi).2]; decide))

theorem halves_eq (c : Dev nD) : (((c : Thread nD τ).loc main_v1) ↦{fullShare} PV c : sProp 𝕄) ⊣⊢ iprop(ptP PV c 0 ∗ ptP PV c 1) :=
  pointsTo_share (PosShare.mem_left_op_right fullShare)

end Cert.KernelIdeal.Ring

end
-- ==== Proof.KernelIdeal.MatMul.lean ====
/- The matrix product's kernel: what its body leaves at a grid point, and the proof data of its pipeline. -/
module

public import proofs.«01_k».proof.Proof.KernelIdeal.RingSched
public import proofs.«01_k».proof.Proof.Gen.KernelIdeal.Regions
public import Idealize.ShloMosaic.Lib.Pipeline.FrameBody
public import Idealize.ShloMosaic.Lib.Pipeline.Value
public import Idealize.ShloMosaic.Lib.VecWindow

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

/-- The one index of a scale. -/
def at1 : S1.Idx := Shape.Idx.first (numel1_S1.symm ▸ Nat.one_pos)
theorem eq_at1 (x : S1.Idx) : x = at1 := by
  funext a; apply Fin.ext; fin_cases a; exact Nat.lt_one_iff.mp (x 0).isLt |>.trans (Nat.lt_one_iff.mp (at1 0).isLt).symm

/-- The block a grid point leaves: the product of its two blocks, scaled and rounded. -/
def mmV (x0 x1 : Vec F S1 .f32) (x2 : Vec F S512x1024 .fp8e4m3) (x3 : Vec F S1024x2048 .fp8e4m3) : Vec F S512x2048 .bf16 :=
  k0_pay1 x2 x3 (x0 at1) (x1 at1)

theorem mm_run (c : Dev nD) (i : grid0.Coords) (arg2 : Memref sig .tc .smem S1 .f32) (harg2 : arg2.IsWhole) (arg3 : Memref sig .tc .smem S1 .f32) (harg3 : arg3.IsWhole)
    (arg4 : Memref sig .tc .vmem S512x1024 .fp8e4m3) (harg4 : arg4.IsWhole) (arg5 : Memref sig .tc .vmem S1024x2048 .fp8e4m3) (harg5 : arg5.IsWhole)
    (arg6 : Memref sig .tc .vmem S512x2048 .bf16) (harg6 : arg6.IsWhole)
    (x0 x1 : Vec F S1 .f32) (x2 : Vec F S512x1024 .fp8e4m3) (x3 : Vec F S1024x2048 .fp8e4m3) (K : PUnit.{1} → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (mmV x0 x1 x2 x3)) -∗ K ⟨⟩))
      ⊢ wp frame (wpE (defs₀ (F := F)) Variants.none c none) Set.univ (cc0_body i arg2 harg2 arg3 harg3 arg4 harg4 arg5 harg5 arg6 harg6) K := by
  simp only [cc0_body_eq_skeleton]; unfold cc0_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_full, View.readAt_full, View.readAt_full, harg4.read_unread, harg5.read_unread]
  have e0 : mm_run.sl.r c arg2 harg2 x0 = x0 at1 := by
    unfold mm_run.sl.r
    rw [View.readAt_full, harg2.read_unread]; exact congrArg x0 (eq_at1 _)
  have e1 : mm_run.sl.r_1 c arg3 harg3 x1 = x1 at1 := by
    unfold mm_run.sl.r_1
    rw [View.readAt_full, harg3.read_unread]; exact congrArg x1 (eq_at1 _)
  rw [e0, e1]; rfl

/-! ## The pipeline's proof data -/

variable (m : (ℓ : Loc nD τ sig) → Buf (Elt F) ℓ)

/-- Window `w`'s block at point `t`, as the array holds it when the region starts. -/
def iblk (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- Nothing but the arrays and the staging buffers is touched, and what the device owes the ring is owed throughout. -/
def dat0 (c : Dev nD) : Dat τ (Elt F) ℕ ℕ UU ℕ cfg0 c where
  A w := V0 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => mmV (iblk m c 0 t) (iblk m c 1 t) (iblk m c 2 t) (iblk m c 3 t)
  Φ _ := Pipeline.scopedRest spec0 c
  q _ := fullShare
  owed _ := O₀ c

theorem A_eq (c : Dev nD) (w : Fin cfg0.W) : (dat0 m c).A w = V0 m c (Pipeline.arrRef spec0 w) := by dsimp only [dat0]
theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]
theorem after0_3 (c : Dev nD) (t : Fin cfg0.N) : (dat0 m c).after 3 t = iblk m c 3 t := by dsimp only [dat0]
theorem after0_4 (c : Dev nD) (t : Fin cfg0.N) : (dat0 m c).after 4 t = mmV (iblk m c 0 t) (iblk m c 1 t) (iblk m c 2 t) (iblk m c 3 t) := by dsimp only [dat0]

/-- An input's staging buffer holds its block at every point, fetched there or not. -/
theorem before0_0 (c : Dev nD) (t : Fin cfg0.N) (d) : (dat0 m c).before 0 t d = iblk m c 0 t :=
  ((dat0 m c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (c : Dev nD) (t : Fin cfg0.N) (d) : (dat0 m c).before 1 t d = iblk m c 1 t :=
  ((dat0 m c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (c : Dev nD) (t : Fin cfg0.N) (d) : (dat0 m c).before 2 t d = iblk m c 2 t :=
  ((dat0 m c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem before0_3 (c : Dev nD) (t : Fin cfg0.N) (d) : (dat0 m c).before 3 t d = iblk m c 3 t :=
  ((dat0 m c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)

theorem row0 (t : Fin cfg0.N) : defs₀ (F := F) .tc cfg0.body (cfg0.bodyArgs t (cfg0.slots t)) = bodyAt0 t := by
  unfold defs₀; rw [Defs.onTc_tc]

/-- The body at a point leaves the inputs' blocks and puts the product's in the result's staging buffer. -/
theorem body0 (c : Dev nD) : BodyObligation (dat0 m c) (defs₀ (F := F)) Variants.none 0 Set.univ := fun t => by
  rw [bigSep_W0, bigSep_W0, row0]
  rw [show (dat0 m c).Φ t.succ = (dat0 m c).Φ t.castSucc from rfl, show (dat0 m c).owesAt 0 t.succ = (dat0 m c).owesAt 0 t.castSucc from rfl,
    after0_0, after0_1, after0_2, after0_3, after0_4]
  simp only [before0_0, before0_1, before0_2, before0_3]
  iintro ⟨HΦ, Ho, ⟨%d0, H0⟩, ⟨%d1, H1⟩, ⟨%d2, H2⟩, ⟨%d3, H3⟩, ⟨%d4, H4⟩⟩
  iapply (mm_run c _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The partial product, as the region leaves it. -/
def part : Parts F := fun c => (dat0 m c).arrAt 4 cfg0.N

end Cert.KernelIdeal.Ring

end
-- ==== Proof.KernelIdeal.Regs.lean ====
/- The two kernels as regions of the program: the matrix product's, which owes the ring's messages throughout, and the
   ring's, which pays them. -/
module

public import proofs.«01_k».proof.Proof.KernelIdeal.RingBufs
public import proofs.«01_k».proof.Proof.KernelIdeal.MatMul
public import proofs.«01_k».proof.Proof.Gen.KernelIdeal.Regions
public import Idealize.ShloMosaic.Lib.Pipeline.RegionTalk
public import Idealize.ShloMosaic.Lib.Pipeline.RegionArraysS

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The buffers between the items -/

/-- What the array of sums holds in the end. -/
def sums (c : Dev nD) : (main_v2 : Ref sig .tc).ty.Contents (Elt F) := joined (part m) c (V0 m c main_v2)

/-- The buffers after both kernels. -/
def Vf (c : Dev nD) : Valuation τ sig (Elt F) := Function.update (Function.update (V0 m c) main_v1 (part m c)) main_v2 (sums m c)
def outs : Outs (F := F) := fun _ r c => Vf m c r

theorem v1_ne_v2 : (Proc.devRef .tc main_v1 : DevRef τ sig) ≠ Proc.devRef .tc main_v2 := by decide
theorem outs_v1 (j : ℕ) (c : Dev nD) : outs m j main_v1 c = part m c := by
  unfold outs Vf; rw [Function.update_of_ne v1_ne_v2, Function.update_self]
theorem outs_v2 (j : ℕ) (c : Dev nD) : outs m j main_v2 c = sums m c := by
  unfold outs Vf; rw [Function.update_self]

abbrev W1 (c : Dev nD) : Valuation τ sig (Elt F) := V1 m (outs m) c
abbrev W2 (c : Dev nD) : Valuation τ sig (Elt F) := V2 m (outs m) c
theorem W1_v1 (c : Dev nD) : W1 m c main_v1 = part m c := by
  show Function.update (V0 m c) (Proc.devRef .tc main_v1) (outs m 1 main_v1 c) (Proc.devRef .tc main_v1) = _
  rw [Function.update_self, outs_v1]
theorem W1_v2 (c : Dev nD) : W1 m c main_v2 = V0 m c main_v2 := V1_of m (outs m) c main_v2 (by decide)
theorem W2_v1 (c : Dev nD) : W2 m c main_v1 = part m c := by
  show Function.update (Function.update (V1 m (outs m) c) (Proc.devRef .tc main_v1) (outs m 2 main_v1 c)) (Proc.devRef .tc main_v2) (outs m 2 main_v2 c) (Proc.devRef .tc main_v1) = _
  rw [Function.update_of_ne v1_ne_v2, Function.update_self, outs_v1]
theorem W2_v2 (c : Dev nD) : W2 m c main_v2 = sums m c := by
  show Function.update (Function.update (V1 m (outs m) c) (Proc.devRef .tc main_v1) (outs m 2 main_v1 c)) (Proc.devRef .tc main_v2) (outs m 2 main_v2 c) (Proc.devRef .tc main_v2) = _
  rw [Function.update_self, outs_v2]

/-! ## What rides along -/

/-- A direction's ghost state before the ring's semaphores are there. -/
def dorm (k : Fin 2) (c : Dev nD) : sProp 𝕄 :=
  iprop((openTok ER (sndCell k 0 c) ∗ openTok ER (rcvCell k 0 c)) ∗ (openTok ER (sndCell k 1 c) ∗ openTok ER (rcvCell k 1 c)) ∗ toks k 0 c)
/-- What the launch leaves for the ring. -/
def Tk (c : Dev nD) : sProp 𝕄 := iprop(∃ κ, invs (part m) κ ∗ gate c ∗ dorm 0 c ∗ dorm 1 c)
/-- What the ring starts from. -/
def Xk (c : Dev nD) : sProp 𝕄 := iprop((∃ κ, invs (part m) κ ∗ gate c ∗ fresh 0 c ∗ fresh 1 c) ∗ idles 0 c ∗ idles 1 c ∗ levAts L lv)
/-- What it leaves. -/
def Yk (c : Dev nD) : sProp 𝕄 := semVal (barCell c) 0

theorem open_at (κ : GSem nD τ sig → ℕ) (c : Dev nD) (g : GSem nD τ sig) (hg : g ∈ (barCells ∪ scCells : Finset (GSem nD τ sig))) :
    iprop(invs (part m) κ ∗ openTok ER g ∗ semVal g 0) ⊢ (|={Set.univ}=> iprop(atPos ER g 0 ∅ 0 ∗ reached ER g 0) : sProp 𝕄) := by
  iintro ⟨#HI, Ho, Hs⟩
  iapply (Rounds.cell_open ER (ringRd (part m)) (g := g) (Set.mem_univ (κ g)))
  isplitr; · iapply (inv_at (part m) κ hg); iexact HI
  isplitl [Ho]; · iexact Ho
  iexact Hs

theorem wake (κ : GSem nD τ sig → ℕ) (k : Fin 2) (c : Dev nD) :
    iprop(invs (part m) κ ∗ dorm k c ∗ spent k c) ⊢ (|={Set.univ}=> fresh k c : sProp 𝕄) := by
  unfold dorm spent fresh at2
  iintro ⟨#HI, ⟨⟨O0, P0⟩, ⟨O1, P1⟩, Ht⟩, ⟨S0, R0⟩, S1, R1⟩
  imod (open_at m κ c _ (snd_mem k 0 c)) $$ [O0 S0] with ⟨A0, #B0⟩
  · isplitr; · iexact HI
    isplitl [O0]; · iexact O0
    iexact S0
  imod (open_at m κ c _ (rcv_mem k 0 c)) $$ [P0 R0] with ⟨C0, #D0⟩
  · isplitr; · iexact HI
    isplitl [P0]; · iexact P0
    iexact R0
  imod (open_at m κ c _ (snd_mem k 1 c)) $$ [O1 S1] with ⟨A1, #B1⟩
  · isplitr; · iexact HI
    isplitl [O1]; · iexact O1
    iexact S1
  imod (open_at m κ c _ (rcv_mem k 1 c)) $$ [P1 R1] with ⟨C1, #D1⟩
  · isplitr; · iexact HI
    isplitl [P1]; · iexact P1
    iexact R1
  imodintro
  isplitl [A0 C0]
  · isplitl [A0]; · iexact A0
    isplitr; · iexact B0
    isplitl [C0]; · iexact C0
    iexact D0
  isplitl [A1 C1]
  · isplitl [A1]; · iexact A1
    isplitr; · iexact B1
    isplitl [C1]; · iexact C1
    iexact D1
  iexact Ht

theorem hopen1 (c : Dev nD) : iprop(Tk m c ∗ Pipeline.ownSems0 osem1 c ∗ levAts L lv) ⊢ (|={Set.univ}=> Xk m c : sProp 𝕄) := by
  unfold Tk Xk
  iintro ⟨⟨%κ, #HI, Hg, D0, D1⟩, Hs, #Hlev⟩
  ihave Hs := (sems_split c) $$ Hs
  icases Hs with ⟨S0, S1, I0, I1⟩
  imod (wake m κ 0 c) $$ [D0 S0] with F0
  · isplitr; · iexact HI
    isplitl [D0]; · iexact D0
    iexact S0
  imod (wake m κ 1 c) $$ [D1 S1] with F1
  · isplitr; · iexact HI
    isplitl [D1]; · iexact D1
    iexact S1
  imodintro
  isplitl [Hg F0 F1]
  · iexists κ
    isplitr; · iexact HI
    isplitl [Hg]; · iexact Hg
    isplitl [F0]; · iexact F0
    iexact F1
  isplitl [I0]; · iexact I0
  isplitl [I1]; · iexact I1
  iexact Hlev

/-! ## The ring's proof data -/

/-- The buffers the ring addresses itself. -/
def Hs : Finset (DevRef τ sig) := {Proc.devRef .tc main_v1, Proc.devRef .tc main_v2}
theorem held_Hs (c : Dev nD) (W : Valuation τ sig (Elt F)) : (StableHlo.held (c : Thread nD τ) Hs W : sProp 𝕄)
    = iprop((((c : Thread nD τ).loc main_v1) ↦{fullShare} W main_v1) ∗ (((c : Thread nD τ).loc main_v2) ↦{fullShare} W main_v2)) := by
  unfold StableHlo.held
  rw [bigSep_eq_bigSepL_of_eq [Proc.devRef .tc main_v1, Proc.devRef .tc main_v2] (by decide) (by decide)]
  rfl

def PhiIn (c : Dev nD) : sProp 𝕄 :=
  iprop(Pipeline.scopedRest cfg1.spec c ∗ (∃ r, prngReg c r) ∗ StableHlo.held (c : Thread nD τ) Hs (W1 m c) ∗ Xk m c)
def PhiOut (c : Dev nD) : sProp 𝕄 :=
  iprop(Pipeline.scopedRest cfg1.spec c ∗ (∃ r, prngReg c r) ∗ StableHlo.held (c : Thread nD τ) Hs (W2 m c) ∗ Pipeline.ownSems0 osem1 c ∗ Yk c)

/-- Before its one point the ring owes its messages, after it nothing. -/
def dat1 (c : Dev nD) : Dat τ (Elt F) ℕ ℕ UU ℕ cfg1 c where
  A w := w.elim0
  after w := w.elim0
  Φ t := if t.val = 0 then PhiIn m c else PhiOut m c
  q w := w.elim0
  owed t := if t.val = 0 then O₀ c else 0

theorem dat1_last : (Fin.last cfg1.N).val ≠ 0 := by rw [Fin.val_last, show cfg1.N = 1 from N_1]; decide
theorem Phi_first (c : Dev nD) : (dat1 m c).Φ t1_0.castSucc = PhiIn m c := by
  show (if (t1_0.castSucc : Fin (cfg1.N + 1)).val = 0 then PhiIn m c else PhiOut m c) = _
  exact if_pos rfl
theorem Phi_last (c : Dev nD) : (dat1 m c).Φ t1_0.succ = PhiOut m c := by
  show (if (t1_0.succ : Fin (cfg1.N + 1)).val = 0 then PhiIn m c else PhiOut m c) = _
  exact if_neg (Nat.succ_ne_zero t1_0.val)
theorem owed_first (c : Dev nD) : (dat1 m c).owed t1_0.castSucc = O₀ c := by
  show (if (t1_0.castSucc : Fin (cfg1.N + 1)).val = 0 then O₀ c else 0) = _
  exact if_pos rfl
theorem owed_after (c : Dev nD) : (dat1 m c).owed t1_0.succ = 0 := by
  show (if (t1_0.succ : Fin (cfg1.N + 1)).val = 0 then O₀ c else 0) = _
  exact if_neg (Nat.succ_ne_zero t1_0.val)

theorem owesAt_of {cfg : Cfg sig Λ₀} {c : Dev nD} (dat : Dat τ (Elt F) ℕ ℕ UU ℕ cfg c) (t : Fin (cfg.N + 1))
    (O : CellTallies nD τ sig ℕ) (h : dat.owed t = O) (hr : dat.recorded t = Set.univ) : ow c O ⊢ (dat.owesAt 0 t : sProp 𝕄) := by
  unfold ow Dat.owesAt Pipeline.owesWithin Dat.bound; rw [h, hr]
  iintro ⟨%W, HO⟩; iexists W; isplitr; · ipureintro; exact fun _ _ => Or.inl trivial
  iexact HO
theorem of_owesAt {cfg : Cfg sig Λ₀} {c : Dev nD} (dat : Dat τ (Elt F) ℕ ℕ UU ℕ cfg c) (t : Fin (cfg.N + 1))
    (O : CellTallies nD τ sig ℕ) (h : dat.owed t = O) : (dat.owesAt 0 t : sProp 𝕄) ⊢ ow c O := by
  unfold ow Dat.owesAt Pipeline.owesWithin; rw [h]
  iintro ⟨%W, -, HO⟩; iexists W; iexact HO

theorem no_windows {M : Type} [URA M] (Φ : Fin 0 → sProp M) : bigSep Finset.univ Φ = (BI.emp : sProp M) :=
  bigSep_univ_eq_bigSepL [] (by decide) (by decide) Φ

theorem row1 (t : Fin cfg1.N) : defs₀ (F := F) .tc cfg1.body (cfg1.bodyArgs t (cfg1.slots t)) = bodyAt1 t := by
  unfold defs₀; rw [Defs.onTc_tc]

theorem body1 (c : Dev nD) : BodyObligation (dat1 m c) (defs₀ (F := F)) 𝒱₀ 0 Set.univ := fun t => by
  obtain rfl := fin_N1 t
  rw [no_windows, no_windows, row1, ring_eq, Phi_first, Phi_last]
  unfold PhiIn PhiOut Xk Yk
  rw [held_Hs, held_Hs, W1_v1, W1_v2, W2_v1, W2_v2]
  iintro ⟨⟨Hsc, Hp, ⟨H1, H2⟩, ⟨%κ, #HI, Hg, F0, F1⟩, I0, I1, #Hlev⟩, HO, -⟩
  ihave HO := (of_owesAt (dat1 m c) _ (O₀ c) (owed_first m c)) $$ HO
  ihave Hsc := (scoped_split c) $$ Hsc
  icases Hsc with ⟨Hoth, B0, B1⟩
  ihave H1 := (halves_eq (part m) c).1 $$ H1
  icases H1 with ⟨P0, P1⟩
  ihave H2 := (cols_split c _) $$ H2
  icases H2 with ⟨C0, C1⟩
  unfold idles
  icases I0 with ⟨L0, T0⟩
  icases I1 with ⟨L1, T1⟩
  iapply (ring_run (part m) κ c _ (colsOf 0) (colsOf 1) (V0 m c main_v2) (V0 m c main_v2) (blk_sub 0) (blk_sub 1)) $$ [Hg F0 B0 P0 L0 C0 T0 F1 B1 P1 L1 C1 T1 HO]
  · unfold feed sink
    isplitr; · iexact HI
    isplitr; · iexact Hlev
    isplitl [Hg]; · iexact Hg
    isplitl [F0 B0 P0 L0 C0 T0]
    · isplitl [F0]; · iexact F0
      isplitl [B0]; · iexact B0
      isplitl [P0 L0]
      · isplitl [P0]; · iexact P0
        iexact L0
      isplitl [C0]; · iexact C0
      iexact T0
    isplitl [F1 B1 P1 L1 C1 T1]
    · isplitl [F1]; · iexact F1
      isplitl [B1]; · iexact B1
      isplitl [P1 L1]
      · isplitl [P1]; · iexact P1
        iexact L1
      isplitl [C1]; · iexact C1
      iexact T1
    iexact HO
  unfold feed sink
  iintro ⟨Hb, ⟨S0, B0, ⟨P0, L0⟩, ⟨C0, T0⟩⟩, ⟨S1, B1, ⟨P1, L1⟩, ⟨C1, T1⟩⟩, HO⟩
  isplitr [HO]
  · isplitl [Hoth B0 B1]
    · iapply (scoped_join c)
      isplitl [Hoth]; · iexact Hoth
      isplitl [B0]; · iexact B0
      iexact B1
    isplitl [Hp]; · iexact Hp
    isplitl [P0 P1 C0 C1]
    · isplitl [P0 P1]
      · iapply (halves_eq (part m) c).2
        isplitl [P0]; · iexact P0
        iexact P1
      iapply (cols_join (part m) c (V0 m c main_v2))
      isplitl [C0]; · iexact C0
      iexact C1
    isplitl [S0 S1 L0 T0 L1 T1]
    · iapply (sems_join c)
      isplitl [S0]; · iexact S0
      isplitl [S1]; · iexact S1
      unfold idles
      isplitl [L0 T0]
      · isplitl [L0]; · iexact L0
        iexact T0
      isplitl [L1]; · iexact L1
      iexact T1
    iexact Hb
  isplitl [HO]; · iapply (owesAt_of (dat1 m c) t1_0.succ 0 (owed_after m c) rfl); iexact HO
  iempintro

/-! ## The regions -/

def pdats : (p : Fin 2) → (c : Dev nD) → Dat τ (Elt F) ℕ ℕ UU ℕ (cfgs p) c
  | 0 => dat0 m
  | 1 => dat1 m

local notation "ℝ𝕊" => Pipeline.RegionSeg (pcfgs (F := F)) adm (pdats m) 0 defs₀ 𝒱₀ L lv

/-- The thread states' rest between the items. -/
def E : Fin 3 → Dev nD → sProp 𝕄
  | 0, c | 1, c => iprop((∃ W, owes (c : Thread nD τ) (O₀ c) W) ∗ emp ∗ (∃ r, prngReg c r) ∗ Tk m c)
  | 2, c => iprop(semVal (barCell c) 0 ∗ ∃ W, owes (c : Thread nD τ) (0 : CellTallies nD τ sig ℕ) W)

theorem O₀_pos {c : Dev nD} {x : GSem nD τ sig} {i : ℕ} (h : 0 < O₀ c x i) : i ∈ L x ∧ 0 < lv x i := by
  unfold O₀ at h
  rw [Pi.add_apply, Finsupp.add_apply, Pi.add_apply, Finsupp.add_apply] at h
  have bar : ∀ d : Dev nD, 0 < (tallyAt (barCell d) 0 1 : CellTallies nD τ sig ℕ) x i → i ∈ L x ∧ 0 < lv x i := by
    intro d h
    rw [tallyAt_apply] at h
    split at h
    · next e => obtain ⟨rfl, rfl⟩ := e; exact ⟨by rw [L_tc]; decide, by rw [lv_bar]; decide⟩
    · exact absurd h (Nat.lt_irrefl 0)
  rcases Nat.add_pos_iff_pos_or_pos.mp h with h | h
  · rcases Nat.add_pos_iff_pos_or_pos.mp h with h | h
    · obtain ⟨k, -, h2, rfl⟩ := owed_pos h
      exact ⟨by rw [L_tc]; exact Finset.mem_range.mpr h2, by rw [lv_rcv]; omega⟩
    · exact bar _ h
  · exact bar _ h

theorem lv_stage (c : Dev nD) : ∀ (w : Fin 5) (s : Fin (spec0 w).nbuf), lv ((c : Thread nD τ), .dma ((spec0 w).sem s)) 0 = 0 := by
  intro w s
  refine lv_copy c _ ?_ 0
  revert w s; decide

theorem share0 (c : Dev nD) (w : Fin cfg0.W) : (dat0 m c).share w = fullShare := (dat0 m c).share_full (fun _ => rfl) w

set_option backward.isDefEq.respectTransparency.types false in
def reg0 : ℝ𝕊 0 :=
  Pipeline.RegionSeg.ofHeldIn (pcfgs (F := F)) adm (pdats m) 0 defs₀ 𝒱₀ L lv 0 O₀ (Pipeline.ucRefs τ sig) (fun _ => iprop(emp)) (fun _ => iprop(emp))
    launch0.toP rfl (fun c => (body0 m c).loose) (fun _ _ => rfl) (fun _ => rfl) (fun c w => share0 m c w)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H; isplitl [H]; · iexact H
      iempintro)
    (fun _ => 0)
    ⟨fun c w s => by rw [L_tc]; exact Finset.mem_range.mpr (by decide), fun c w s => Nat.le_of_eq (lv_stage c w s), fun c g i h => O₀_pos h⟩
    (fun c => iprop((∃ r, prngReg c r) ∗ Tk m c)) (V0 m) (fun c w => rfl)

theorem arrs0 : Pipeline.arrRefs (τ := τ) (pcfgs (F := F) 0).spec ⊆ Pipeline.ucRefs τ sig :=
  Pipeline.arrRefs_sub_ucRefs spec0 (by decide)

/-- After the matrix product's region the buffers are as they were, the partial product's aside. -/
theorem after_reg0 (c : Dev nD) : ∀ b ∈ Pipeline.ucRefs τ sig, Pipeline.afterRegion (dat0 m c) (V0 m c) b = W1 m c b := by
  intro b hb
  obtain ⟨r, hr, rfl⟩ := Finset.mem_map.mp (Finset.mem_filter.mp hb).1
  by_cases h : r = main_v1
  · subst h
    refine Eq.trans ?_ (W1_v1 m c).symm
    exact Pipeline.afterRegion_arr (dat0 m c) (V0 m c) winFacts0.arr_inj 4
  · refine Eq.trans ?_ (V1_of m (outs m) c r (by rw [List.mem_singleton]; exact h)).symm
    refine Pipeline.afterRegion_keeps (dat0 m c) (V0 m c) winFacts0.arr_inj (fun w => rfl) r ?_
    intro w hw
    match w, hw with
    | 0, _ => rfl
    | 1, _ => rfl
    | 2, _ => rfl
    | 3, _ => rfl
    | 4, hw => exact absurd hw.symm h

theorem reg0_pre (c : Dev nD) : iprop(StableHlo.held (c : Thread nD τ) (Pipeline.ucRefs τ sig) (V0 m c) ∗ E m 0 c) ⊢ (reg0 m).pre c := by
  show iprop(StableHlo.held (c : Thread nD τ) (Pipeline.ucRefs τ sig) (V0 m c) ∗ (∃ W, owes (c : Thread nD τ) (O₀ c) W) ∗ emp ∗ (∃ r, prngReg c r) ∗ Tk m c)
    ⊢ iprop(StableHlo.held (c.tc : Thread nD τ) (Pipeline.arrRefs (τ := τ) (pcfgs (F := F) 0).spec) (V0 m c) ∗ emp
    ∗ (StableHlo.held (c.tc : Thread nD τ) (Pipeline.ucRefs τ sig \ Pipeline.arrRefs (τ := τ) (pcfgs (F := F) 0).spec) (V0 m c) ∗ (∃ r, prngReg c r) ∗ Tk m c)
    ∗ ∃ Wd, owes (c : Thread nD τ) (O₀ c) Wd)
  rw [StableHlo.held_sub_split (c.tc : Thread nD τ) (arrs0 (F := F)) (V0 m c)]
  iintro ⟨⟨Ha, Hu⟩, HO, -, HR⟩
  isplitl [Ha]; · iexact Ha
  isplitr; · iempintro
  isplitl [Hu HR]
  · isplitl [Hu]; · iexact Hu
    iexact HR
  iexact HO

theorem reg0_post (c : Dev nD) : (reg0 m).post c ⊢ iprop(StableHlo.held (c : Thread nD τ) (Pipeline.ucRefs τ sig) (V1 m (outs m) c) ∗ E m 1 c) := by
  show iprop(StableHlo.held (c.tc : Thread nD τ) (Pipeline.arrRefs (τ := τ) (pcfgs (F := F) 0).spec) (Pipeline.afterRegion (dat0 m c) (V0 m c)) ∗ emp
    ∗ (StableHlo.held (c.tc : Thread nD τ) (Pipeline.ucRefs τ sig \ Pipeline.arrRefs (τ := τ) (pcfgs (F := F) 0).spec) (V0 m c) ∗ (∃ r, prngReg c r) ∗ Tk m c)
    ∗ ∃ Wd, owes (c : Thread nD τ) (O₀ c) Wd)
    ⊢ iprop(StableHlo.held (c : Thread nD τ) (Pipeline.ucRefs τ sig) (W1 m c) ∗ (∃ W, owes (c : Thread nD τ) (O₀ c) W) ∗ emp ∗ (∃ r, prngReg c r) ∗ Tk m c)
  have hoff : ∀ b ∈ Pipeline.ucRefs τ sig \ Pipeline.arrRefs (τ := τ) (pcfgs (F := F) 0).spec, Pipeline.afterRegion (dat0 m c) (V0 m c) b = V0 m c b :=
    Pipeline.afterRegion_off (dat0 m c) (V0 m c) (Pipeline.ucRefs τ sig)
  rw [← StableHlo.held_congr (c.tc : Thread nD τ) (after_reg0 m c),
    StableHlo.held_sub_split (c.tc : Thread nD τ) (arrs0 (F := F)) (Pipeline.afterRegion (dat0 m c) (V0 m c)),
    StableHlo.held_congr (c.tc : Thread nD τ) hoff]
  iintro ⟨Ha, -, ⟨Hu, HR⟩, HO⟩
  isplitl [Ha Hu]
  · isplitl [Ha]; · iexact Ha
    iexact Hu
  isplitl [HO]; · iexact HO
  isplitr; · iempintro
  iexact HR

theorem cut1 (c : Dev nD) (t : Fin (cfg1.N + 1)) (x : GSem nD τ sig) (i : ℕ) (h : 0 < (dat1 m c).owed t x i) : i ∈ L x ∧ 0 < lv x i := by
  have e : (dat1 m c).owed t = if t.val = 0 then O₀ c else 0 := rfl
  rw [e] at h
  split at h
  · exact O₀_pos h
  · exact absurd h (Nat.lt_irrefl 0)

theorem Hs_sub : Hs ⊆ Pipeline.ucRefs τ sig := by unfold Hs; decide

theorem off_Hs (c : Dev nD) : ∀ b ∈ Pipeline.ucRefs τ sig \ Hs, W2 m c b = W1 m c b := by
  intro b hb
  obtain ⟨hb1, hb2⟩ := Finset.mem_sdiff.mp hb
  obtain ⟨r, hr, rfl⟩ := Finset.mem_map.mp (Finset.mem_filter.mp hb1).1
  refine V2_of m (outs m) c r ?_
  intro h
  rcases List.mem_cons.mp h with rfl | h
  · exact hb2 (by unfold Hs; exact Finset.mem_insert_self _ _)
  · rw [List.mem_singleton] at h; subst h
    exact hb2 (by unfold Hs; exact Finset.mem_insert_of_mem (Finset.mem_singleton_self _))

set_option backward.isDefEq.respectTransparency.types false in
def reg1 : ℝ𝕊 1 :=
  Pipeline.RegionSeg.ofTalk (pcfgs (F := F)) adm (pdats m) 0 defs₀ 𝒱₀ L lv 1 osem1 osem1_facts
    Hs (Pipeline.ucRefs τ sig) Hs_sub launch1.toP rfl (fun c => (body1 m c).loose)
    (fun _ => 0) O₀ (fun c => (owed_first m c).trans (zero_add _).symm) (fun c => owed_after m c) (fun _ => rfl) (fun _ w => w.elim0)
    (W1 m) (W2 m) (off_Hs m)
    (Tk m) Yk (Xk m) Yk (hopen1 m)
    (fun c => Entails.of_eq (Phi_first m c).symm) (fun c => Entails.of_eq (Phi_last m c))
    (fun c => by iintro H; imodintro; iexact H)
    (fun _ => 0)
    ⟨fun _ w => w.elim0, fun _ w => w.elim0, fun c t x i h => cut1 m c t x i h⟩
    (fun _ => iprop(emp))
    (fun _ w => w.elim0) (fun _ w => w.elim0)

theorem held_none (c : Dev nD) (W : Valuation τ sig (Elt F)) :
    (StableHlo.held (c.tc : Thread nD τ) (Pipeline.arrRefs (τ := τ) (pcfgs (F := F) 1).spec) W : sProp 𝕄) = BI.emp := by
  have : Pipeline.arrRefs (τ := τ) (pcfgs (F := F) 1).spec = ∅ := by
    unfold Pipeline.arrRefs
    haveI : IsEmpty (Fin (pcfgs (F := F) 1).W) := ⟨fun w => w.elim0⟩
    rw [Finset.map_eq_empty, Finset.image_eq_empty, Finset.univ_eq_empty]
  rw [this]
  unfold StableHlo.held
  exact BI.bigSep_empty

theorem reg1_pre (c : Dev nD) : iprop(StableHlo.held (c : Thread nD τ) (Pipeline.ucRefs τ sig) (V1 m (outs m) c) ∗ E m 1 c) ⊢ (reg1 m).pre c := by
  show iprop(StableHlo.held (c : Thread nD τ) (Pipeline.ucRefs τ sig) (W1 m c) ∗ (∃ W, owes (c : Thread nD τ) (O₀ c) W) ∗ emp ∗ (∃ r, prngReg c r) ∗ Tk m c)
    ⊢ iprop(StableHlo.held (c.tc : Thread nD τ) (Pipeline.arrRefs (τ := τ) (pcfgs (F := F) 1).spec) (W1 m c) ∗ (∃ r, prngReg c r)
    ∗ (StableHlo.held (c.tc : Thread nD τ) (Pipeline.ucRefs τ sig) (W1 m c) ∗ emp) ∗ Tk m c ∗ ∃ Wd, owes (c : Thread nD τ) (0 + O₀ c) Wd)
  rw [held_none, zero_add]
  iintro ⟨Hh, HO, -, Hp, HT⟩
  isplitr; · iempintro
  isplitl [Hp]; · iexact Hp
  isplitl [Hh]
  · isplitl [Hh]; · iexact Hh
    iempintro
  isplitl [HT]; · iexact HT
  iexact HO

theorem reg1_post (c : Dev nD) : (reg1 m).post c ⊢ iprop(StableHlo.held (c : Thread nD τ) (Pipeline.ucRefs τ sig) (V2 m (outs m) c) ∗ E m 2 c) := by
  show iprop(StableHlo.held (c.tc : Thread nD τ) (Pipeline.arrRefs (τ := τ) (pcfgs (F := F) 1).spec) (W2 m c) ∗ (∃ r, prngReg c r)
    ∗ (StableHlo.held (c.tc : Thread nD τ) (Pipeline.ucRefs τ sig) (W2 m c) ∗ emp) ∗ Yk c ∗ ∃ Wd, owes (c : Thread nD τ) (0 : CellTallies nD τ sig ℕ) Wd)
    ⊢ iprop(StableHlo.held (c : Thread nD τ) (Pipeline.ucRefs τ sig) (W2 m c) ∗ semVal (barCell c) 0 ∗ ∃ W, owes (c : Thread nD τ) (0 : CellTallies nD τ sig ℕ) W)
  rw [held_none]
  unfold Yk
  iintro ⟨-, -, ⟨Hh, -⟩, Hb, HO⟩
  isplitl [Hh]; · iexact Hh
  isplitl [Hb]; · iexact Hb
  iexact HO

end Cert.KernelIdeal.Ring

end
-- ==== Proof.KernelIdeal.Launch.lean ====
/- The launch: every semaphore's invariant, what each device is dealt, and the whole program's run. -/
module

public import proofs.«01_k».proof.Proof.KernelIdeal.Regs
public import Idealize.ShloMosaic.Lib.Pipeline.Regions
public import Idealize.ShloMosaic.Harness.Basic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Idealize.ShloMosaic.Smoke (bigSep_pair bigSep_unpair)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## Tokens -/

/-- A device's rights to send, to a receiver's notice, and its credit to await, in one direction. -/
def mySnd (k : Fin 2) (c : Dev nD) : sProp 𝕄 := bigSep (Finset.Ico 0 8) fun g => dutyTok ER (sndCell k (sl g) c) (g / 2) 0
def atRcv (k : Fin 2) (c : Dev nD) : sProp 𝕄 := bigSep (Finset.Ico 0 8) fun g => dutyTok ER (rcvCell k (sl g) c) (g / 2) 0
def incoming (k : Fin 2) (c : Dev nD) : sProp 𝕄 := bigSep (Finset.Ico 0 8) fun g => cred (tallyAt (rcvCell k (sl g) c) g N)

theorem toks_parts (k : Fin 2) (c : Dev nD) : iprop((mySnd k c ∗ atRcv k (dst k c)) ∗ incoming k c) ⊢ (toks k 0 c : sProp 𝕄) := by
  unfold mySnd atRcv incoming toks tok
  rw [bigSep_sep', bigSep_sep']

def barTok : Dev nD × Fin 2 ↪ GSem nD τ sig × ℕ × Fin 2 :=
  ⟨fun cd => (barCell cd.1, 0, cd.2), fun _ _ h =>
    Prod.ext (congrArg (fun t : GSem nD τ sig × ℕ × Fin 2 => t.1.1.1) h) (congrArg (fun t : GSem nD τ sig × ℕ × Fin 2 => t.2.2) h)⟩
theorem msg_inj : Function.Injective (fun i : Fin 2 × Fin 2 × Fin 8 => (csem (i.1, i.2.1, sl i.2.2.val), i.2.2.val / 2)) := by
  rintro ⟨x, k, g⟩ ⟨x', k', g'⟩ h
  have h1 := csem_inj (congrArg Prod.fst h)
  have h2 : g.val / 2 = g'.val / 2 := congrArg Prod.snd h
  have hx : x = x' := congrArg Prod.fst h1
  have hk : k = k' := congrArg (fun t : Fin 2 × Fin 2 × Fin 2 => t.2.1) h1
  have hg : g.val % 2 = g'.val % 2 := congrArg (fun t : Fin 2 × Fin 2 × Fin 2 => t.2.2.val) h1
  subst hx hk
  have : g = g' := Fin.ext (by omega)
  rw [this]
def msgTok : Dev nD × (Fin 2 × Fin 2 × Fin 8) ↪ GSem nD τ sig × ℕ × Fin 2 :=
  ⟨fun ci => (((ci.1 : Thread nD τ), csem (ci.2.1, ci.2.2.1, sl ci.2.2.2.val)), ci.2.2.2.val / 2, 0), fun _ _ h =>
    Prod.ext (congrArg (fun t : GSem nD τ sig × ℕ × Fin 2 => t.1.1.1) h)
      (msg_inj (Prod.ext (congrArg (fun t : GSem nD τ sig × ℕ × Fin 2 => t.1.2) h) (congrArg (fun t : GSem nD τ sig × ℕ × Fin 2 => t.2.1) h)))⟩
def barToks : Finset (GSem nD τ sig × ℕ × Fin 2) := Finset.univ.map barTok
def msgToks : Finset (GSem nD τ sig × ℕ × Fin 2) := Finset.univ.map msgTok

theorem disjoint_toks : Disjoint barToks msgToks := by
  rw [Finset.disjoint_left]
  rintro t h₁ h₂
  obtain ⟨a, -, rfl⟩ := Finset.mem_map.mp h₁
  obtain ⟨b, -, h⟩ := Finset.mem_map.mp h₂
  exact csem_ne_bar _ (congrArg (fun t : GSem nD τ sig × ℕ × Fin 2 => t.1.2) h)

theorem disjoint_cells : Disjoint (barCells : Finset (GSem nD τ sig)) scCells := by
  rw [Finset.disjoint_left]
  rintro g h₁ h₂
  obtain ⟨c, -, rfl⟩ := Finset.mem_map.mp h₁
  obtain ⟨ci, -, h⟩ := Finset.mem_map.mp h₂
  exact csem_ne_bar ci.2 (congrArg Prod.snd h)

theorem bigSep_fin8 (Φ : ℕ → sProp 𝕄) : bigSep Finset.univ (fun g : Fin 8 => Φ g.val) = bigSep (Finset.Ico 0 8) Φ := by
  rw [show Finset.Ico 0 8 = (Finset.univ : Finset (Fin 8)).map Fin.valEmbedding from by decide, bigSep_map]
  rfl

theorem bigSep_two (Φ : Fin 2 → sProp 𝕄) : bigSep Finset.univ Φ = iprop(Φ 0 ∗ Φ 1) := by rw [bigSep_fin_two]; rfl

/-- The tokens of device `c`'s semaphores. -/
def barDuties (c : Dev nD) : sProp 𝕄 := iprop(dutyTok ER (barCell c) 0 0 ∗ dutyTok ER (barCell c) 0 1)
def msgDuties (c : Dev nD) : sProp 𝕄 := iprop((mySnd 0 c ∗ mySnd 1 c) ∗ (atRcv 0 c ∗ atRcv 1 c))

theorem barToks_eq : bigSep barToks (fun x => (dutyTok ER x.1 x.2.1 x.2.2 : sProp 𝕄)) = bigSep Finset.univ fun c : Dev nD => barDuties c := by
  unfold barToks; rw [bigSep_map, bigSep_univ_prod]
  exact bigSep_congr fun c _ => by rw [bigSep_two]; rfl
theorem msgToks_eq : bigSep msgToks (fun x => (dutyTok ER x.1 x.2.1 x.2.2 : sProp 𝕄)) = bigSep Finset.univ fun c : Dev nD => msgDuties c := by
  unfold msgToks; rw [bigSep_map, bigSep_univ_prod]
  refine bigSep_congr fun c _ => ?_
  rw [bigSep_univ_prod, bigSep_two, bigSep_univ_prod, bigSep_univ_prod, bigSep_two, bigSep_two]
  unfold msgDuties mySnd atRcv
  rw [← bigSep_fin8, ← bigSep_fin8, ← bigSep_fin8, ← bigSep_fin8]
  rfl

theorem all_toks : bigSep (barToks ∪ msgToks) (fun x => (dutyTok ER x.1 x.2.1 x.2.2 : sProp 𝕄))
    = iprop((bigSep barToks fun x => dutyTok ER x.1 x.2.1 x.2.2) ∗ bigSep msgToks fun x => dutyTok ER x.1 x.2.1 x.2.2) := BI.bigSep_union disjoint_toks

/-- The tokens device `c` pays with. -/
def barPays (c : Dev nD) : sProp 𝕄 := iprop(dutyTok ER (barCell (dst 1 c)) 0 0 ∗ dutyTok ER (barCell (dst 0 c)) 0 1)
def msgPays (c : Dev nD) : sProp 𝕄 := iprop((mySnd 0 c ∗ mySnd 1 c) ∗ (atRcv 0 (dst 0 c) ∗ atRcv 1 (dst 1 c)))

theorem bar_around : (bigSep Finset.univ fun c : Dev nD => (barDuties c : sProp 𝕄)) ⊢ bigSep Finset.univ fun c : Dev nD => barPays c := by
  unfold barDuties barPays
  rw [bigSep_sep', bigSep_sep', bigSep_univ_equiv (dstE 1) (fun c : Dev nD => (dutyTok ER (barCell c) 0 0 : sProp 𝕄)),
    bigSep_univ_equiv (dstE 0) (fun c : Dev nD => (dutyTok ER (barCell c) 0 1 : sProp 𝕄))]
  exact BI.Entails.refl _
theorem msg_around : (bigSep Finset.univ fun c : Dev nD => (msgDuties c : sProp 𝕄)) ⊢ bigSep Finset.univ fun c : Dev nD => msgPays c := by
  unfold msgDuties msgPays
  rw [bigSep_sep', bigSep_sep', bigSep_sep', bigSep_sep', bigSep_sep', bigSep_sep', bigSep_univ_equiv (dstE 0) (fun c : Dev nD => (atRcv 0 c : sProp 𝕄)),
    bigSep_univ_equiv (dstE 1) (fun c : Dev nD => (atRcv 1 c : sProp 𝕄))]
  exact BI.Entails.refl _

/-- The rights to open a device's message semaphores. -/
def opens (c : Dev nD) : sProp 𝕄 :=
  iprop(((openTok ER (sndCell 0 0 c) ∗ openTok ER (sndCell 0 1 c)) ∗ (openTok ER (sndCell 1 0 c) ∗ openTok ER (sndCell 1 1 c)))
    ∗ ((openTok ER (rcvCell 0 0 c) ∗ openTok ER (rcvCell 0 1 c)) ∗ (openTok ER (rcvCell 1 0 c) ∗ openTok ER (rcvCell 1 1 c))))
theorem opens_eq : bigSep scCells (fun g => (openTok ER g : sProp 𝕄)) = bigSep Finset.univ fun c : Dev nD => opens c := by
  unfold scCells; rw [bigSep_map, bigSep_univ_prod]
  refine bigSep_congr fun c _ => ?_
  rw [bigSep_univ_prod, bigSep_two, bigSep_univ_prod, bigSep_univ_prod, bigSep_two, bigSep_two, bigSep_two, bigSep_two, bigSep_two, bigSep_two]
  rfl

/-! ## Credit -/

theorem two_units (c : Dev nD) : (iprop(cred (tallyAt (barCell c) 0 1) ∗ cred (tallyAt (barCell c) 0 1)) : sProp 𝕄) ⊢ cred (tallyAt (barCell c) 0 2) := by
  rw [show (tallyAt (barCell c) 0 2 : CellTallies nD τ sig ℕ) = tallyAt (barCell c) 0 1 + tallyAt (barCell c) 0 1 from by
    unfold tallyAt; rw [← tallyOn_add, ← Finsupp.single_add]]
  exact (cred_add (tallyAt (barCell c) 0 1) (tallyAt (barCell c) 0 1)).2

theorem in_at (k : Fin 2) (g : ℕ) (c : Dev nD) : (Pipeline.launchCred (fun d => due k g d) c : sProp 𝕄) ⊢ cred (tallyAt (rcvCell k (sl g) c) g N) :=
  Pipeline.launchCred_tallyAt (.dma (rcvS k (sl g))) (dst k) (src k) (dst_src k) (src_dst k) g N c
theorem bar_in (k : Fin 2) (c : Dev nD) : (Pipeline.launchCred (fun d => tallyAt (barCell (dst k d)) 0 1) c : sProp 𝕄) ⊢ cred (tallyAt (barCell c) 0 1) :=
  Pipeline.launchCred_tallyAt (.reg barS) (dst k) (src k) (dst_src k) (src_dst k) 0 1 c

theorem creds (c : Dev nD) : (Pipeline.launchCred O₀ c : sProp 𝕄) ⊢ iprop(cred (tallyAt (barCell c) 0 2) ∗ incoming 0 c ∗ incoming 1 c) := by
  rw [show (O₀ : Dev nD → CellTallies nD τ sig ℕ) = fun d => ((∑ i ∈ Finset.Ico 0 8, (due 0 i d + due 1 i d)) + tallyAt (barCell (dst 0 d)) 0 1) + tallyAt (barCell (dst 1 d)) 0 1 from rfl,
    Pipeline.launchCred_add, Pipeline.launchCred_add, Pipeline.launchCred_sum]
  have hm : (bigSep (Finset.Ico 0 8) fun i => (Pipeline.launchCred (fun d => due 0 i d + due 1 i d) c : sProp 𝕄)) ⊢ iprop(incoming 0 c ∗ incoming 1 c) := by
    unfold incoming
    rw [← bigSep_sep']
    exact bigSep_mono fun i _ => by
      rw [Pipeline.launchCred_add]
      exact BI.sep_mono (in_at 0 i c) (in_at 1 i c)
  iintro ⟨⟨Hm, H0⟩, H1⟩
  ihave Hm := hm $$ Hm
  ihave H0 := (bar_in 0 c) $$ H0
  ihave H1 := (bar_in 1 c) $$ H1
  icases Hm with ⟨HA, HB⟩
  isplitl [H0 H1]
  · iapply (two_units c)
    isplitl [H0]; · iexact H0
    iexact H1
  isplitl [HA]; · iexact HA
  iexact HB

/-! ## What is dealt -/

/-- What every device may consult. -/
def records (κ : GSem nD τ sig → ℕ) : sProp 𝕄 := iprop(invs (part m) κ ∗ bigSep barCells fun g => reached ER g 0)
instance records_persistent (κ : GSem nD τ sig → ℕ) : BI.Persistent (records m κ) := by unfold records; infer_instance
theorem reached_at (c : Dev nD) : (bigSep barCells fun g => (reached ER g 0 : sProp 𝕄)) ⊢ reached ER (barCell c) 0 :=
  bigSep_elim (Finset.mem_map_of_mem barEmb (Finset.mem_univ c))

/-- What stays with device `c`. -/
def linear (c : Dev nD) : sProp 𝕄 := iprop(atPos ER (barCell c) 0 ∅ 0 ∗ opens c ∗ barPays c ∗ msgPays c)
def bundle (c : Dev nD) : sProp 𝕄 :=
  iprop(StableHlo.held (c : Thread nD τ) (Pipeline.ucRefs τ sig) (V0 m c) ∗ (cred (tallyAt (barCell c) 0 2) ∗ incoming 0 c ∗ incoming 1 c)
    ∗ owes (c : Thread nD τ) (O₀ c) ∅ ∗ ∃ r, prngReg c r)

theorem dorm_intro (k : Fin 2) (c : Dev nD) :
    iprop((openTok ER (sndCell k 0 c) ∗ openTok ER (rcvCell k 0 c)) ∗ (openTok ER (sndCell k 1 c) ∗ openTok ER (rcvCell k 1 c))
      ∗ ((mySnd k c ∗ atRcv k (dst k c)) ∗ incoming k c)) ⊢ (dorm k c : sProp 𝕄) := by
  unfold dorm
  exact sep_mono .rfl (sep_mono .rfl (toks_parts k c))

/-- What every device starts from. -/
abbrev T₀ (c : Dev nD) : sProp 𝕄 := iprop(StableHlo.held (c : Thread nD τ) (Pipeline.ucRefs τ sig) (V0 m c) ∗ E m 0 c)

theorem T₀_intro (κ : GSem nD τ sig → ℕ) (c : Dev nD) : iprop(records m κ ∗ (linear c ∗ bundle m c)) ⊢ T₀ m c := by
  show _ ⊢ iprop(StableHlo.held (c : Thread nD τ) (Pipeline.ucRefs τ sig) (V0 m c) ∗ (∃ W, owes (c : Thread nD τ) (O₀ c) W) ∗ emp ∗ (∃ r, prngReg c r) ∗ Tk m c)
  unfold records linear bundle opens barPays msgPays Tk gate
  iintro ⟨⟨#HI, #HR⟩, ⟨Hat, ⟨⟨⟨a00, a01⟩, a10, a11⟩, ⟨b00, b01⟩, b10, b11⟩, Hbar, ⟨s0, s1⟩, r0, r1⟩, Hh, ⟨Hc, i0, i1⟩, HO, Hp⟩
  isplitl [Hh]; · iexact Hh
  isplitl [HO]; · iexists ∅; iexact HO
  isplitr; · iempintro
  isplitl [Hp]; · iexact Hp
  iexists κ
  isplitr; · iexact HI
  isplitl [Hat Hbar Hc]
  · isplitl [Hat]; · iexact Hat
    isplitr
    · isplitr; · iapply (reached_at (F := F) (dst 1 c)); iexact HR
      iapply (reached_at (F := F) (dst 0 c)); iexact HR
    isplitl [Hbar]; · iexact Hbar
    iexact Hc
  isplitl [a00 a01 b00 b01 s0 r0 i0]
  · iapply (dorm_intro 0 c)
    isplitl [a00 b00]
    · isplitl [a00]; · iexact a00
      iexact b00
    isplitl [a01 b01]
    · isplitl [a01]; · iexact a01
      iexact b01
    isplitl [s0 r0]
    · isplitl [s0]; · iexact s0
      iexact r0
    iexact i0
  iapply (dorm_intro 1 c)
  isplitl [a10 b10]
  · isplitl [a10]; · iexact a10
    iexact b10
  isplitl [a11 b11]
  · isplitl [a11]; · iexact a11
    iexact b11
  isplitl [s1 r1]
  · isplitl [s1]; · iexact s1
    iexact r1
  iexact i1

/-! ## The launch -/

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

abbrev ringU : URounds (GSem nD τ sig) (Fin 2) := launchOf barCells scCells (barToks ∪ msgToks)
/-- The ghost state the launch starts from. -/
def u₀ : UU := (initOf (Pipeline.cells cfgs cellOf_inj) (Pipeline.launchToks cfgs cellOf_inj), (ringU, 1))

/-- All of `X` on device 0. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp
def G : Dev nD → sProp 𝕄 := onDev (BI.own (ER ringU))

variable (ρ : Dev nD → PrngReg)

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c.tc : Thread nD τ).loc b)) = StableHlo.held (c : Thread nD τ) (Pipeline.ucRefs τ sig) (V0 m c) from
        Pipeline.unscopedBufs_held (Ix := ℕ) (Name := ℕ) (U := UU) (Lvl := ℕ) c (V0 m c), unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hdeal : (bigSep Finset.univ fun c : Dev nD => (iprop(unscopedBufs c (fun b => m ((c.tc : Thread nD τ).loc b)) ∗ unscopedSems0 c
        ∗ owes (c.tc : Thread nD τ) (O₀ c) ∅ ∗ Pipeline.launchCred O₀ c ∗ prngReg c (ρ c) ∗ G c) : sProp 𝕄))
      ⊢ bigSep Finset.univ fun c : Dev nD => (iprop(bundle m c ∗ (semVal (barCell c) 0 ∗ G c)) : sProp 𝕄) := bigSep_mono fun c _ => hcore c
  iintro ⟨H, -⟩
  ihave H' := hdeal $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER ringU) from Entails.of_eq (bigSep_onDev (F := F) (BI.own (ER ringU)))) $$ HG
  imod (Rounds.fund_launch ER (ringRd (part m)) disjoint_cells (fun g _ h => h) (barToks ∪ msgToks)) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records invs
    isplitr; · iexact Hinv
    iexact Hr
  ihave Htok := (Entails.of_eq (all_toks (F := F))) $$ Htok
  icases Htok with ⟨Hbt, Hmt⟩
  iapply bigSep_pair
  isplitr [HB]
  · unfold linear
    iapply bigSep_pair; isplitl [Hat]; · iapply hat $$ Hat
    iapply bigSep_pair; isplitl [Hopen]; · iapply (Entails.of_eq (opens_eq (F := F))) $$ Hopen
    iapply bigSep_pair
    isplitl [Hbt]
    · iapply (bar_around (F := F))
      iapply (Entails.of_eq (barToks_eq (F := F))) $$ Hbt
    · iapply (msg_around (F := F))
      iapply (Entails.of_eq (msgToks_eq (F := F))) $$ Hmt
  · iexact HB

/-! ## The run -/

abbrev Tₙ (c : Dev nD) : sProp 𝕄 := iprop(StableHlo.held (c : Thread nD τ) (Pipeline.ucRefs τ sig) (V3 m (outs m) c) ∗ semVal (barCell c) 0)

theorem uc_mem (r : Ref sig .tc) (h : ¬ (Proc.devRef (τ := τ) .tc r).isScoped) : Proc.devRef .tc r ∈ Pipeline.ucRefs τ sig :=
  Finset.mem_filter.mpr ⟨StableHlo.devRef_mem_tcRefs r, h⟩

set_option backward.isDefEq.respectTransparency.types false in
/-- The whole program: it ends, the result array holds the final valuation's, the arguments are unchanged, and every counter reads zero. -/
theorem run_main : θ_run defs (onTc (τ := τ) (main (F := F))) ⟨m, fun _ => 0, ρ⟩ (fun r =>
    (∀ c : Dev nD, r.2.mem ((c.tc : Thread nD τ).loc main_v11) = V3 m (outs m) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) := by
  refine Pipeline.θ_run_regions_kit_dev_sems (pcfgs (F := F)) adm (pdats m) 0 cellOf_inj EP defs₀ 𝒱₀ L lv m ρ main
    (segs m (outs m) 𝒱₀ L lv (E m) 0 (pdats m) (reg0 m) (reg1 m))
    (fun c Q => by
      rewrite [main_chain c, Seg.run_eq_chain,
        show (segs m (outs m) 𝒱₀ L lv (E m) 0 (pdats m) (reg0 m) (reg1 m) c).map Seg.prog = [
          Prog.lift (.customCall (Pipeline.entry 0) ()),
          Prog.lift (.customCall (Pipeline.entry 1) ()),
          StableHlo.seq (hostOps2 c) ] from rfl]
      dsimp (config := { failIfUnchanged := false }) only
      exact .rfl)
    (fun c => by simp only [segs, Seg.pipes_host, Seg.pipes_region, Seg.pipes_nil]; decide) O₀ L_of_ne G u₀ ?_
    (T₀ := T₀ m) (Tₙ := Tₙ m)
    (hch := fun c => ⟨reg0_pre m c, (reg0_post m c).trans (reg1_pre m c), reg1_post m c, ?_⟩)
    (hinit := init m ρ)
    (QY := fun c s => (s.mem ((c.tc : Thread nD τ).loc main_v11) = V3 m (outs m) c main_v11
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
      ∧ s.sem (barCell c) = 0)
    (hfin := fun c s' => ?_)
    (hQ := fun s h hs => ⟨fun c => (h c).1, sem_eq_zero hs fun c sm hsm => by
        obtain rfl := unscoped_eq sm hsm
        exact (h c).2⟩)
  · unfold u₀ G
    iintro Hu
    ihave H := (ownU_pair _ _) $$ Hu
    icases H with ⟨HP, HX⟩
    imodintro
    isplitl [HP]; · iexact HP
    rw [bigSep_onDev]; iexact HX
  · show iprop(StableHlo.held (c : Thread nD τ) (Pipeline.ucRefs τ sig) (V3 m (outs m) c)
          ∗ (semVal (barCell c) 0 ∗ ∃ W, owes (c : Thread nD τ) (0 : CellTallies nD τ sig ℕ) W))
        ⊢ iprop(Tₙ m c ∗ ∃ W, owes (c : Thread nD τ) (0 : CellTallies nD τ sig ℕ) W)
    iintro ⟨Hh, Hb0, HO⟩
    isplitr [HO]
    · isplitl [Hh]; · iexact Hh
      iexact Hb0
    · iexact HO
  · dsimp only [Tₙ]
    unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh]; · iexact Hh
      iexact HSI
    icases Hr with ⟨%h, HSI⟩
    imodintro
    isplitr
    · ipureintro
      exact ⟨⟨h _ (uc_mem main_v11 (by decide)), (h _ (uc_mem main_arg0 (by decide))).trans (V3_main_arg0 m (outs m) c),
        (h _ (uc_mem main_arg1 (by decide))).trans (V3_main_arg1 m (outs m) c),
        (h _ (uc_mem main_arg2 (by decide))).trans (V3_main_arg2 m (outs m) c),
        (h _ (uc_mem main_arg3 (by decide))).trans (V3_main_arg3 m (outs m) c)⟩, by simpa using hb⟩
    · iexact HSI

end Cert.KernelIdeal.Ring

end
-- ==== Proof.Plain.lean ====
/- A product of two matrices onto zeros over the extended reals, an element at a time. -/
module

public import Idealize.ShloMosaic.Lib.MatmulPlain

@[expose] public section

noncomputable section

namespace Cert.Proof.Plain

open Idealize.ShloMosaic Idealize.ShloMosaic.ValueIdx

/-- The pattern of all zeros denotes zero. -/
theorem bits_zero : Ideal.ofBits .f32 0x00000000#32 = 0 := by simp [Ideal.ofBits, Ideal.ieee]

/-- An element of a product onto zeros is the sum of the products along the contracted axis. -/
theorem matmul_zero_apply (M K N : ℕ) {φ₁ φ₂ : FTy} (lhs : FVec Ideal ⟨2, ![M, K]⟩ φ₁) (rhs : FVec Ideal ⟨2, ![K, N]⟩ φ₂)
    (j : (⟨2, ![M, N]⟩ : Shape).Idx) :
    FloatOps.matmul (DotDims.plain M K N) none lhs rhs (constant (F := Ideal) ⟨2, ![M, N]⟩ .f32 0x00000000#32) j
      = (∑ k : Fin K, (lhs (ix2 (j 0) k) : EReal) * (rhs (ix2 k (j 1)) : EReal) : EReal) := by
  have h := Ideal.matmul_plain_apply none lhs rhs (constant (F := Ideal) ⟨2, ![M, N]⟩ .f32 0x00000000#32) (j 0) (j 1)
  have hj : ix2 (j 0) (j 1) = j := (eq_ix2 j).symm
  have hz : (constant (F := Ideal) ⟨2, ![M, N]⟩ .f32 0x00000000#32 (ix2 (j 0) (j 1)) : EReal) = 0 := bits_zero
  refine (congrArg _ hj.symm).trans (h.trans ?_)
  exact (congrArg (· + _) hz).trans (zero_add _)

end Cert.Proof.Plain

end
-- ==== Proof.KernelIdeal.PartValue.lean ====
/- The partial product of a device over the extended reals, an element at a time: the sum of the products along the
   device's share of the contracted axis, times the product of the scales. -/
module

public import proofs.«01_k».proof.Proof.KernelIdeal.MatMul
public import proofs.«01_k».proof.Proof.Plain

@[expose] public section

noncomputable section

namespace Cert.KernelIdeal.Ring

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-- A device's inputs, as arrays of extended reals. -/
def xOf (c : Dev nD) : S4096x1024.Idx → EReal := m ((c : Thread nD τ).loc main_arg0)
def wOf (c : Dev nD) : S1024x8192.Idx → EReal := m ((c : Thread nD τ).loc main_arg1)
def sxOf (c : Dev nD) : EReal := (m ((c : Thread nD τ).loc main_arg2) : S1.Idx → EReal) at1
def swOf (c : Dev nD) : EReal := (m ((c : Thread nD τ).loc main_arg3) : S1.Idx → EReal) at1

/-- An element of a device's partial product. -/
def partAt (c : Dev nD) (i : S4096x8192.Idx) : EReal :=
  (∑ k : Fin 1024, xOf m c (ix2 (i 0) k) * wOf m c (ix2 k (i 1))) * (sxOf m c * swOf m c)

/-- What a grid point computes, an element at a time. -/
theorem mmV_apply (x0 x1 : Vec Ideal S1 .f32) (x2 : Vec Ideal S512x1024 .fp8e4m3) (x3 : Vec Ideal S1024x2048 .fp8e4m3) (j : S512x2048.Idx) :
    (mmV x0 x1 x2 x3 j : EReal) = (∑ k : Fin 1024, (x2 (ix2 (j 0) k) : EReal) * (x3 (ix2 k (j 1)) : EReal)) * ((x0 at1 : EReal) * (x1 at1 : EReal)) := by
  unfold mmV k0_pay1
  rw [shapeCast_self, shapeCast_self]
  exact congrArg (· * _) (Cert.Proof.Plain.matmul_zero_apply 512 1024 2048 _ _ j)

/-! ## Where the blocks of a grid point lie -/

theorem idx2 (t : Fin cfg0.N) : win0_2.index t = ![t.val % 8, 0] := by revert t; decide +kernel
theorem idx3 (t : Fin cfg0.N) : win0_3.index t = ![0, t.val / 8] := by revert t; decide +kernel
theorem idx4 (t : Fin cfg0.N) : win0_4.index t = ![t.val % 8, t.val / 8] := by revert t; decide +kernel

/-- The scales' blocks are the scales. -/
theorem iblk0_at (c : Dev nD) (t : Fin cfg0.N) : (iblk m c 0 t at1 : EReal) = sxOf m c := by
  unfold iblk
  rw [View.read_apply]
  show (V0 m c main_arg2 _ : EReal) = _
  exact congrArg (m ((c : Thread nD τ).loc main_arg2) : S1.Idx → EReal) (eq_at1 _)
theorem iblk1_at (c : Dev nD) (t : Fin cfg0.N) : (iblk m c 1 t at1 : EReal) = swOf m c := by
  unfold iblk
  rw [View.read_apply]
  show (V0 m c main_arg3 _ : EReal) = _
  exact congrArg (m ((c : Thread nD τ).loc main_arg3) : S1.Idx → EReal) (eq_at1 _)

/-- An element of the left factor's block. -/
theorem iblk2_at (c : Dev nD) (t : Fin cfg0.N) (r : Fin 512) (k : Fin 1024) (R : Fin 4096) (hR : R.val = t.val % 8 * 512 + r.val) :
    (iblk m c 2 t (ix2 r k) : EReal) = xOf m c (ix2 R k) := by
  unfold iblk
  rw [View.read_apply]
  show (V0 m c main_arg0 _ : EReal) = _
  refine congrArg (m ((c : Thread nD τ).loc main_arg0) : S4096x1024.Idx → EReal) (Shape.idx_ext₂ ?_ ?_)
  · show win0_2.index t 0 * 512 + 1 * r.val = R.val
    rw [idx2 t, hR]; show t.val % 8 * 512 + 1 * r.val = _; omega
  · show win0_2.index t 1 * 1024 + 1 * k.val = k.val
    rw [idx2 t]; show 0 * 1024 + 1 * k.val = _; omega
/-- An element of the right factor's block. -/
theorem iblk3_at (c : Dev nD) (t : Fin cfg0.N) (k : Fin 1024) (r : Fin 2048) (R : Fin 8192) (hR : R.val = t.val / 8 * 2048 + r.val) :
    (iblk m c 3 t (ix2 k r) : EReal) = wOf m c (ix2 k R) := by
  unfold iblk
  rw [View.read_apply]
  show (V0 m c main_arg1 _ : EReal) = _
  refine congrArg (m ((c : Thread nD τ).loc main_arg1) : S1024x8192.Idx → EReal) (Shape.idx_ext₂ ?_ ?_)
  · show win0_3.index t 0 * 1024 + 1 * k.val = k.val
    rw [idx3 t]; show 0 * 1024 + 1 * k.val = _; omega
  · show win0_3.index t 1 * 2048 + 1 * r.val = R.val
    rw [idx3 t, hR]; show t.val / 8 * 2048 + 1 * r.val = _; omega

/-- What a grid point writes back is its block of the partial product. -/
theorem flushed4 (c : Dev nD) (t : Fin cfg0.N) :
    (dat0 m c).flushed 4 t = ((cfg0.win 4).blk t).view.read (Elt Ideal) (partAt m c) := by
  show (cfg0.win 4).cut (grid0.coords t) ((dat0 m c).after 4 t) = _
  rw [after0_4]
  funext j
  rw [View.read_apply]
  show (mmV (iblk m c 0 t) (iblk m c 1 t) (iblk m c 2 t) (iblk m c 3 t) j : EReal) = partAt m c _
  rw [mmV_apply, iblk0_at, iblk1_at]
  unfold partAt
  refine congrArg (· * _) (Finset.sum_congr rfl fun k _ => ?_)
  refine congrArg₂ (· * ·) (iblk2_at m c t (j 0) k _ ?_) (iblk3_at m c t k (j 1) _ ?_)
  · show win0_4.index t 0 * 512 + 1 * (j 0).val = _
    rw [idx4 t]; show t.val % 8 * 512 + 1 * (j 0).val = _; omega
  · show win0_4.index t 1 * 2048 + 1 * (j 1).val = _
    rw [idx4 t]; show t.val / 8 * 2048 + 1 * (j 1).val = _; omega

/-- The partial product, an element at a time. -/
theorem part_apply (c : Dev nD) (i : S4096x8192.Idx) : (part m c i : EReal) = partAt m c i := by
  have h0 : (i 0).val < 4096 := (i 0).isLt
  have h1 : (i 1).val < 8192 := (i 1).isLt
  have hN : (i 1).val / 2048 * 8 + (i 0).val / 512 < cfg0.N := by
    show _ < 32; omega
  refine (dat0 m c).arrAt_apply_of_mem 4 (partAt m c) (fun t _ => flushed4 m c t) cfg0.N ⟨_, hN⟩ i hN (flush0_4 _) ?_
  show i ∈ ((View.whole main_v1).slice (win0_4.rect ⟨_, hN⟩)).set
  rw [View.set_slice_whole, Rect.mem_set_unit]
  intro a
  match a with
  | ⟨0, _⟩ =>
    show win0_4.index ⟨_, hN⟩ 0 * 512 ≤ (i 0).val ∧ (i 0).val < win0_4.index ⟨_, hN⟩ 0 * 512 + 512
    rw [idx4]; show _ % 8 * 512 ≤ _ ∧ _ < _ % 8 * 512 + 512
    dsimp only; omega
  | ⟨1, _⟩ =>
    show win0_4.index ⟨_, hN⟩ 1 * 2048 ≤ (i 1).val ∧ (i 1).val < win0_4.index ⟨_, hN⟩ 1 * 2048 + 2048
    rw [idx4]; show _ / 8 * 2048 ≤ _ ∧ _ < _ / 8 * 2048 + 2048
    dsimp only; omega

end Cert.KernelIdeal.Ring

end
-- ==== Proof.KernelIdeal.RingValue.lean ====
/- What the ring leaves in a device's own row block over the extended reals: at every element the sum of the four devices'
   partial products. -/
module

public import proofs.«01_k».proof.Proof.KernelIdeal.Regs
public import proofs.«01_k».proof.Proof.KernelIdeal.PartValue

@[expose] public section

noncomputable section

namespace Cert.KernelIdeal.Ring

open Idealize.ShloMosaic Idealize.ShloMosaic.TcCoe Idealize.ShloMosaic.ValueIdx
open Idealize.SL.Sem
open Cert.KernelIdeal Cert.KernelIdeal.Gen

/-! ## A block written and read, an element at a time -/

section
variable {F : FTy → Type} [FloatOps F]

variable (PV : Parts F) (c : Dev nD) (k q : Fin 2)

theorem blk_off0 (r : Dev nD) : (blk k q r).off 0 = 1024 * r.val := by rw [blk_off]; rfl
theorem blk_off1 (r : Dev nD) : (blk k q r).off 1 = 2048 * (colOf k q).val := by rw [blk_off]; rfl

/-- An element of a block of the partial product. -/
theorem pblk_apply (r : Dev nD) (y : S1024x2048.Idx) (i : S4096x8192.Idx)
    (h0 : (i 0).val = 1024 * r.val + (y 0).val) (h1 : (i 1).val = 2048 * (colOf k q).val + (y 1).val) :
    pblk PV k q r c y = PV c i := by
  refine congrArg (PV c : S4096x8192.Idx → Elt F .bf16) (a₁ := (cut pM (blk k q r)).view.emb y) (Shape.idx_ext₂ ?_ ?_)
  · show (blk k q r).off 0 + 1 * (y 0).val = _
    rw [blk_off0, h0]; omega
  · show (blk k q r).off 1 + 1 * (y 1).val = _
    rw [blk_off1, h1]; omega

/-- Inside the block just written an element is the block's. -/
theorem write_hit (r : Dev nD) (f : S4096x8192.Idx → Elt F .bf16) (v : Vec F S1024x2048 .bf16) (y : S1024x2048.Idx) (i : S4096x8192.Idx)
    (h0 : (i 0).val = 1024 * r.val + (y 0).val) (h1 : (i 1).val = 2048 * (colOf k q).val + (y 1).val) :
    (cut oM (blk k q r)).view.write (Elt F) f v Finset.univ i = v y := by
  have hi : i = (cut oM (blk k q r)).view.emb y := by
    refine Shape.idx_ext₂ ?_ ?_
    · show _ = (blk k q r).off 0 + 1 * (y 0).val
      rw [blk_off0, h0]; omega
    · show _ = (blk k q r).off 1 + 1 * (y 1).val
      rw [blk_off1, h1]; omega
  rw [hi]
  exact View.write_emb_of_mem _ _ (Finset.mem_univ y)

/-- Outside its columns a write of a block changes nothing. -/
theorem write_miss (r : Dev nD) (f : S4096x8192.Idx → Elt F .bf16) (v : Vec F S1024x2048 .bf16) (i : S4096x8192.Idx)
    (h : (i 1).val / 2048 ≠ (colOf k q).val) :
    (cut oM (blk k q r)).view.write (Elt F) f v Finset.univ i = f i := by
  refine View.write_of_not_mem _ _ _ (fun hi => ?_)
  rw [View.setOn_univ] at hi
  have hi' : i ∈ (Rect.unit (s := S4096x8192) (blk k q r).off S1024x2048.size (blk k q r).inb).set := by
    rw [← View.set_slice_whole main_v2]; exact hi
  have h' := Rect.mem_set_unit.mp hi' 1
  rw [blk_off1] at h'
  have h2 : S1024x2048.size 1 = 2048 := rfl
  omega

theorem stored_hit (f : S4096x8192.Idx → Elt F .bf16) (y : S1024x2048.Idx) (i : S4096x8192.Idx)
    (h0 : (i 0).val = 1024 * c.val + (y 0).val) (h1 : (i 1).val = 2048 * (colOf k q).val + (y 1).val) :
    stored PV c k q f i = rsv PV k q 3 (src k c) y :=
  write_hit k q c _ _ y i h0 h1
theorem stored_miss (f : S4096x8192.Idx → Elt F .bf16) (i : S4096x8192.Idx) (h : (i 1).val / 2048 ≠ (colOf k q).val) :
    stored PV c k q f i = f i :=
  (write_miss k q c _ _ i h).trans (write_miss k q (dst k c) _ _ i h)

/-- What a column block's direction and pass leave in the device's own rows. -/
theorem joined_own (f : S4096x8192.Idx → Elt F .bf16) (y : S1024x2048.Idx) (i : S4096x8192.Idx)
    (h0 : (i 0).val = 1024 * c.val + (y 0).val) (h1 : (i 1).val = 2048 * (colOf k q).val + (y 1).val) :
    joined PV c f i = rsv PV k q 3 (src k c) y := by
  have hy : (y 1).val < 2048 := (y 1).isLt
  have hne : ∀ k' q' : Fin 2, (colOf k' q').val ≠ (colOf k q).val → (i 1).val / 2048 ≠ (colOf k' q').val := fun k' q' h => by omega
  unfold joined
  show (if (i 1).val / 4096 = 0 then _ else _) = _
  match k, q, h1, hne with
  | 0, 0, h1, hne =>
    have : (colOf 0 0).val = 0 := rfl
    rw [if_pos (by omega), stored_miss PV c 0 1 _ i (hne 0 1 (by decide))]; exact stored_hit PV c 0 0 _ y i h0 h1
  | 0, 1, h1, hne =>
    have : (colOf 0 1).val = 1 := rfl
    rw [if_pos (by omega)]; exact stored_hit PV c 0 1 _ y i h0 h1
  | 1, 0, h1, hne =>
    have : (colOf 1 0).val = 2 := rfl
    rw [if_neg (by omega), stored_miss PV c 1 1 _ i (hne 1 1 (by decide))]; exact stored_hit PV c 1 0 _ y i h0 h1
  | 1, 1, h1, hne =>
    have : (colOf 1 1).val = 3 := rfl
    rw [if_neg (by omega)]; exact stored_hit PV c 1 1 _ y i h0 h1
end

/-! ## The sum over the devices -/

theorem src_four : ∀ (k : Fin 2) (c : Dev nD), src k (src k (src k (src k c))) = c := by decide

/-- The devices back along a direction are all four devices. -/
theorem sum_back (g : Dev nD → EReal) : ∀ (k : Fin 2) (c : Dev nD),
    g (src k c) + (g (src k (src k c)) + (g (src k (src k (src k c))) + g c)) = ∑ d : Dev nD, g d := by
  have e : ∑ d : Dev nD, g d = g 0 + g 1 + g 2 + g 3 := Fin.sum_univ_four g
  intro k c
  rw [e]
  fin_cases k <;> fin_cases c
  · show g 3 + (g 2 + (g 1 + g 0)) = _
    ac_rfl
  · show g 0 + (g 3 + (g 2 + g 1)) = _
    ac_rfl
  · show g 1 + (g 0 + (g 3 + g 2)) = _
    ac_rfl
  · show g 2 + (g 1 + (g 0 + g 3)) = _
    ac_rfl
  · show g 1 + (g 2 + (g 3 + g 0)) = _
    ac_rfl
  · show g 2 + (g 3 + (g 0 + g 1)) = _
    ac_rfl
  · show g 3 + (g 0 + (g 1 + g 2)) = _
    ac_rfl
  · show g 0 + (g 1 + (g 2 + g 3)) = _
    ac_rfl

/-- An element of a device's partial product. -/
def el (PV : Parts Ideal) (d : Dev nD) (i : S4096x8192.Idx) : EReal := PV d i

/-- A running sum that has gone round, over the extended reals. -/
theorem rsv_round (PV : Parts Ideal) (c : Dev nD) (k q : Fin 2) (y : S1024x2048.Idx) (i : S4096x8192.Idx)
    (h0 : (i 0).val = 1024 * c.val + (y 0).val) (h1 : (i 1).val = 2048 * (colOf k q).val + (y 1).val) :
    (rsv PV k q 3 (src k c) y : EReal) = ∑ d : Dev nD, el PV d i := by
  have hp : ∀ d r, r = c → (pblk PV k q r d y : EReal) = el PV d i := fun d r hr => by
    subst hr; exact pblk_apply PV d k q r y i h0 h1
  have h4 := src_four k c
  show (pblk PV k q ((src k)^[3] (src k c)) (src k c) y : EReal)
      + ((pblk PV k q ((src k)^[2] (src k (src k c))) (src k (src k c)) y : EReal)
        + ((pblk PV k q ((src k)^[1] (src k (src k (src k c)))) (src k (src k (src k c))) y : EReal)
          + (pblk PV k q (src k (src k (src k (src k c)))) (src k (src k (src k (src k c)))) y : EReal))) = _
  rw [hp (src k c) ((src k)^[3] (src k c)) h4, hp (src k (src k c)) ((src k)^[2] (src k (src k c))) h4,
    hp (src k (src k (src k c))) ((src k)^[1] (src k (src k (src k c)))) h4, h4, hp c c rfl]
  exact sum_back (fun d => el PV d i) k c

variable (m : (ℓ : Loc nD τ sig) → Buf (Elt Ideal) ℓ)

/-- An element of the device's own rows. -/
theorem sums_own (c : Dev nD) (i : S4096x8192.Idx) (h : (i 0).val / 1024 = c.val) :
    (sums m c i : EReal) = ∑ d : Dev nD, partAt m d i := by
  have hi1 : (i 1).val < 8192 := (i 1).isLt
  let k : Fin 2 := ⟨(i 1).val / 4096, by omega⟩
  let q : Fin 2 := ⟨(i 1).val / 2048 % 2, by omega⟩
  let y : S1024x2048.Idx := ix2 (⟨(i 0).val % 1024, by omega⟩ : Fin 1024) (⟨(i 1).val % 2048, by omega⟩ : Fin 2048)
  have h0 : (i 0).val = 1024 * c.val + (y 0).val := by show _ = _ + (i 0).val % 1024; omega
  have h1 : (i 1).val = 2048 * (colOf k q).val + (y 1).val := by
    show _ = 2048 * (2 * ((i 1).val / 4096) + (i 1).val / 2048 % 2) + (i 1).val % 2048; omega
  refine (joined_own (part m) c k q _ y i h0 h1).trans ((rsv_round (part m) c k q y i h0 h1).trans ?_)
  exact Finset.sum_congr rfl fun d _ => part_apply m d i

end Cert.KernelIdeal.Ring

end
-- ==== Proof.KernelIdeal.HostValue.lean ====
/- The host's lines after the kernels: they take a device's own row block out of its array of sums. -/
module

public import proofs.«01_k».proof.Proof.KernelIdeal.Regs
public import Idealize.ShloMosaic.Lib.DynamicIndex
public import Idealize.ShloMosaic.Lib.Claim
public import Idealize.ShloMosaic.Lib.StableHlo.Run

@[expose] public section

noncomputable section

namespace Cert.KernelIdeal.Ring

open Idealize.ShloMosaic Idealize.ShloMosaic.TcCoe Idealize.ShloMosaic.Tactic
open Idealize.SL.Sem
open Idealize.ShloMosaic.StableHlo
open Cert.KernelIdeal Cert.KernelIdeal.Gen

variable {F : FTy → Type} [FloatOps F]

/-- The row the host starts at, as it computes it from the device's number. -/
def startW (c : Dev nD) : IVec S_ 32 :=
  let v4 : IVec S_ 32 := Host.divui (constantI S_ 32 (Dev.word c)) (constantI S_ 32 1#32)
  let v5 : IVec S_ 32 := Host.remui v4 (constantI S_ 32 4#32)
  let v7 : IVec S_ 32 := muli v5 (constantI S_ 32 1024#32)
  select (cmpi .slt v7 (constantI S_ 32 0#32)) (addi v7 (constantI S_ 32 4096#32)) v7

theorem startW_toInt : ∀ c : Dev nD, (startW c (Shape.Idx.first h_S_)).toInt = (c.val * 1024 : ℕ) := by decide +kernel

/-- The two starts, as the lines before the last leave them. -/
theorem start_v10 (c : Dev nD) (X : Valuation τ sig (Elt F)) :
    (StableHlo.after ((hostOps2 c).take 14) X (Proc.devRef .tc main_v10) : IVec S_ 32) = startW c := by
  simp only [hostOps2, List.take_succ_cons, List.take_zero]
  after_results
  rfl
theorem start_c4 (c : Dev nD) (X : Valuation τ sig (Elt F)) :
    (StableHlo.after ((hostOps2 c).take 14) X (Proc.devRef .tc main_c_4) : IVec S_ 32) = constantI S_ 32 0#32 := by
  simp only [hostOps2, List.take_succ_cons, List.take_zero]
  after_results

/-- What the host's lines leave in the result. -/
theorem host_result (c : Dev nD) (X : Valuation τ sig (Elt F)) :
    StableHlo.after (hostOps2 c) X (Proc.devRef .tc main_v11)
      = Host.dynamicSlice S1024x8192 (X (Proc.devRef .tc main_v2) : S4096x8192.Idx → Elt F .bf16)
          (fun k => ((![startW c, constantI S_ 32 0#32] : Fin 2 → IVec S_ 32) k (Shape.Idx.first h_S_)).toInt)
          sliceFits_S4096x8192_S1024x8192 := by
  unfold_abbrev_sides
  after_results
  refine congrArg (fun st => Host.dynamicSlice S1024x8192 (X (Proc.devRef .tc main_v2) : S4096x8192.Idx → Elt F .bf16) st
    sliceFits_S4096x8192_S1024x8192) (funext fun k => congrArg BitVec.toInt ?_)
  fin_cases k
  · exact congrFun (start_v10 c X) _
  · exact congrFun (start_c4 c X) _

theorem own_slices (c : Dev nD) : S4096x8192.Slices ![c.val * 1024, 0] S1024x8192 := by
  refine ⟨rfl, fun a => ?_⟩
  have := c.isLt
  have hD : nD = 4 := rfl
  fin_cases a
  · show c.val * 1024 + 1024 ≤ 4096
    omega
  · show 0 + 8192 ≤ 8192
    omega

variable (m : (ℓ : Loc nD τ sig) → Buf (Elt F) ℓ)

/-- An element of the result is the element of the array of sums in the device's own row block. -/
theorem result_apply (c : Dev nD) (j : S1024x8192.Idx) (i : S4096x8192.Idx) (h0 : (i 0).val = c.val * 1024 + (j 0).val) (h1 : (i 1).val = (j 1).val) :
    (V3 m (outs m) c main_v11 : S1024x8192.Idx → Elt F .bf16) j = (sums m c : S4096x8192.Idx → Elt F .bf16) i := by
  have e : V3 m (outs m) c main_v11 = Host.dynamicSlice S1024x8192 (sums m c : S4096x8192.Idx → Elt F .bf16)
      (fun k => ((![startW c, constantI S_ 32 0#32] : Fin 2 → IVec S_ 32) k (Shape.Idx.first h_S_)).toInt)
      sliceFits_S4096x8192_S1024x8192 := by
    rw [← W2_v2 m c]
    exact host_result c (V2 m (outs m) c)
  rw [e, Host.dynamicSlice_eq_extractStridedSlice S1024x8192 _ _ ![c.val * 1024, 0] _ (own_slices c)
    (fun a => by fin_cases a; exacts [startW_toInt c, rfl])]
  unfold extractStridedSlice
  refine congrArg (sums m c : S4096x8192.Idx → Elt F .bf16) (Shape.idx_ext₂ ?_ ?_)
  · exact h0.symm
  · exact (Nat.zero_add _).trans h1.symm

end Cert.KernelIdeal.Ring

end
-- ==== Proof.RefValue.lean ====
/- What the reference leaves over the extended reals, an element at a time: the sum of the products along the contracted
   axis, times the product of the scales. -/
module

public import proofs.«01_k».proof.Proof.Gen.ReferenceIdeal.Value
public import proofs.«01_k».proof.Proof.Plain
public import Idealize.ShloMosaic.Lib.VecWindow

@[expose] public section

noncomputable section

namespace Cert.ReferenceIdeal.Whole

open Idealize.ShloMosaic Idealize.ShloMosaic.TcCoe Idealize.ShloMosaic.ValueIdx
open Idealize.SL.Sem
open Idealize.ShloMosaic.Pipeline (Dat Cfg Window)
open Cert.ReferenceIdeal Cert.ReferenceIdeal.Gen

/-- The one index of a scale. -/
def at1 : S1.Idx := Shape.Idx.first (numel1_S1.symm ▸ Nat.one_pos)
theorem eq_at1 (x : S1.Idx) : x = at1 := by
  funext a; apply Fin.ext; fin_cases a; exact Nat.lt_one_iff.mp (x 0).isLt |>.trans (Nat.lt_one_iff.mp (at1 0).isLt).symm

theorem hz2 : (![0, 0] : Fin 2 → ℕ) = fun _ => 0 := by decide

section
variable {F : FTy → Type} [FloatOps F]

/-- The body leaves its one payload. -/
theorem out_eq (c : Dev nD) (a0 : Memref sig .tc .vmem S4096x4096 .fp8e4m3) (h0 : a0.IsWhole) (a1 : Memref sig .tc .vmem S4096x8192 .fp8e4m3) (h1 : a1.IsWhole)
    (a2 : Memref sig .tc .smem S1 .f32) (h2 : a2.IsWhole) (a3 : Memref sig .tc .smem S1 .f32) (h3 : a3.IsWhole) (a4 : Memref sig .tc .vmem S4096x8192 .bf16) (h4 : a4.IsWhole)
    (x0 : Vec F S4096x4096 .fp8e4m3) (x1 : Vec F S4096x8192 .fp8e4m3) (x2 x3 : Vec F S1 .f32) :
    out0_A_4 c a0 h0 a1 h1 a2 h2 a3 h3 a4 h4 x0 x1 x2 x3 = k0_pay1 x0 x1 (x2 at1) (x3 at1) := by
  unfold out0_A_4
  rw [View.read_writes_eq_canon _ _ _ (cover0_A_4 c a0 h0 a1 h1 a2 h2 a3 h3 a4 h4 x0 x1 x2 x3)]
  unfold kernelRun0_A
  dsimp only
  rw [View.canon_unit_zero hz2]
  have e2 : kernelRun0_A.sl.r c a2 h2 x2 = x2 at1 := by
    unfold kernelRun0_A.sl.r
    rw [View.readAt_full, h2.read_unread]; exact congrArg x2 (eq_at1 _)
  have e3 : kernelRun0_A.sl.r_1 c a3 h3 x3 = x3 at1 := by
    unfold kernelRun0_A.sl.r_1
    rw [View.readAt_full, h3.read_unread]; exact congrArg x3 (eq_at1 _)
  rw [e2, e3, View.readAt_eq_ld, View.readAt_eq_ld, h0.read_unread, h1.read_unread]
  exact congrArg₂ (fun a b => k0_pay1 a b (x2 at1) (x3 at1)) (View.ld_unit_zero (S := S4096x4096) hz2 _ x0) (View.ld_unit_zero (S := S4096x8192) hz2 _ x1)
end

/-! ## The one grid point -/

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)

/-- An index of a window's block is the same index of its array. -/
theorem emb0 (t : Fin cfg0.N) (j : S4096x4096.Idx) : ((cfg0.win 0).blk t).view.emb j = j := by
  obtain ⟨e0, e1⟩ := idx0 t
  refine Shape.idx_ext₂ ?_ ?_
  · show win0_0.index t (0 : Fin 2) * 4096 + 1 * (j 0).val = (j 0).val; omega
  · show win0_0.index t (1 : Fin 2) * 4096 + 1 * (j 1).val = (j 1).val; omega
theorem emb1 (t : Fin cfg0.N) (j : S4096x8192.Idx) : ((cfg0.win 1).blk t).view.emb j = j := by
  obtain ⟨e0, e1⟩ := idx1 t
  refine Shape.idx_ext₂ ?_ ?_
  · show win0_1.index t (0 : Fin 2) * 4096 + 1 * (j 0).val = (j 0).val; omega
  · show win0_1.index t (1 : Fin 2) * 8192 + 1 * (j 1).val = (j 1).val; omega
theorem emb4 (t : Fin cfg0.N) (j : S4096x8192.Idx) : ((cfg0.win 4).blk t).view.emb j = j := by
  obtain ⟨e0, e1⟩ := idx4 t
  refine Shape.idx_ext₂ ?_ ?_
  · show win0_4.index t (0 : Fin 2) * 4096 + 1 * (j 0).val = (j 0).val; omega
  · show win0_4.index t (1 : Fin 2) * 8192 + 1 * (j 1).val = (j 1).val; omega

/-! ## The result over the extended reals -/

variable (m : (ℓ : Loc nD τ sig) → Buf (Elt Ideal) ℓ)

/-- The inputs, as arrays of extended reals. -/
def xAll (c : Dev nD) : S4096x4096.Idx → EReal := m ((c : Thread nD τ).loc main_arg0)
def wAll (c : Dev nD) : S4096x8192.Idx → EReal := m ((c : Thread nD τ).loc main_arg1)
def sxAll (c : Dev nD) : EReal := (m ((c : Thread nD τ).loc main_arg2) : S1.Idx → EReal) at1
def swAll (c : Dev nD) : EReal := (m ((c : Thread nD τ).loc main_arg3) : S1.Idx → EReal) at1

/-- An element of the scaled product. -/
def prodAt (c : Dev nD) (i : S4096x8192.Idx) : EReal :=
  (∑ k : Fin 4096, xAll m c (ix2 (i 0) k) * wAll m c (ix2 k (i 1))) * (sxAll m c * swAll m c)

/-- The body's payload, an element at a time. -/
theorem pay_apply (x0 : Vec Ideal S4096x4096 .fp8e4m3) (x1 : Vec Ideal S4096x8192 .fp8e4m3) (s0 s1 : EReal) (j : S4096x8192.Idx) :
    (k0_pay1 (F := Ideal) x0 x1 s0 s1 j : EReal) = (∑ k : Fin 4096, (x0 (ix2 (j 0) k) : EReal) * (x1 (ix2 k (j 1)) : EReal)) * (s0 * s1) := by
  unfold k0_pay1
  exact congrArg (· * _) (Cert.Proof.Plain.matmul_zero_apply 4096 4096 8192 _ _ j)

theorem iblk0_at (c : Dev nD) (t : Fin cfg0.N) (j : S4096x4096.Idx) : (iblk m c 0 t j : EReal) = xAll m c j :=
  congrArg (xAll m c) (emb0 t j)
theorem iblk1_at (c : Dev nD) (t : Fin cfg0.N) (j : S4096x8192.Idx) : (iblk m c 1 t j : EReal) = wAll m c j :=
  congrArg (wAll m c) (emb1 t j)
theorem iblk2_at (c : Dev nD) (t : Fin cfg0.N) : (iblk m c 2 t at1 : EReal) = sxAll m c :=
  congrArg (m ((c : Thread nD τ).loc main_arg2) : S1.Idx → EReal) (eq_at1 _)
theorem iblk3_at (c : Dev nD) (t : Fin cfg0.N) : (iblk m c 3 t at1 : EReal) = swAll m c :=
  congrArg (m ((c : Thread nD τ).loc main_arg3) : S1.Idx → EReal) (eq_at1 _)

/-- What the grid point writes back. -/
theorem flushed_eq (c : Dev nD) (t : Fin cfg0.N) :
    (dats m 0 c).flushed 4 t = ((cfg0.win 4).blk t).view.read (Elt Ideal) (prodAt m c) := by
  rw [Value.flushed4_A, out_eq]
  funext j
  rw [View.read_apply]
  show (k0_pay1 (iblk m c 0 t) (iblk m c 1 t) (iblk m c 2 t at1) (iblk m c 3 t at1) j : EReal) = prodAt m c (((cfg0.win 4).blk t).view.emb j)
  rw [emb4 t j, pay_apply, iblk2_at, iblk3_at]
  unfold prodAt
  exact congrArg (· * _) (Finset.sum_congr rfl fun k _ => congrArg₂ (· * ·) (iblk0_at m c t _) (iblk1_at m c t _))

/-- The array the reference leaves. -/
theorem result_eq (c : Dev nD) : (dats m 0 c).arrAt 4 cfg0.N = prodAt m c :=
  (dats m 0 c).arrAt_eq_of_cover 4 (prodAt m c) (fun t _ => flushed_eq m c t) fun i =>
    ⟨⟨0, Nat.one_pos⟩, rfl, by
      have h := ((cfg0.win 4).blk ⟨0, Nat.one_pos⟩).view.emb_mem_set i
      rw [emb4 _ i] at h
      exact h⟩

end Cert.ReferenceIdeal.Whole

end
-- ==== Proof.Algebra.lean ====
/- The kernel and the reference compute the same: where the product of the scales is finite and not negative, scaling the
   four devices' sums and adding them is scaling the whole sum. -/
module

public import proofs.«01_k».proof.Defs
public import proofs.«01_k».proof.Proof.KernelIdeal.Launch
public import proofs.«01_k».proof.Proof.KernelIdeal.RingValue
public import proofs.«01_k».proof.Proof.KernelIdeal.HostValue
public import proofs.«01_k».proof.Proof.RefValue

@[expose] public section

noncomputable section

namespace Cert.Proof.Algebra

open Idealize.ShloMosaic Idealize.ShloMosaic.TcCoe Idealize.ShloMosaic.ValueIdx Idealize.SL.Sem

/-! ## Over the extended reals -/

/-- A sum along the whole contracted axis is the sum of the sums along the devices' shares of it. -/
theorem sum_shares (f : Fin 4096 → EReal) :
    ∑ k : Fin 4096, f k = ∑ d : Fin 4, ∑ k : Fin 1024, f ⟨d.val * 1024 + k.val, by omega⟩ := by
  rw [← (finProdFinEquiv (m := 4) (n := 1024)).sum_comp f, Fintype.sum_prod_type]
  refine Finset.sum_congr rfl fun d _ => Finset.sum_congr rfl fun k _ => congrArg f (Fin.ext ?_)
  show k.val + 1024 * d.val = d.val * 1024 + k.val
  omega

/-- A finite factor that is not negative distributes over a sum of four. -/
theorem scale_sum (g : Fin 4 → EReal) (s : EReal) (h0 : 0 ≤ s) (h1 : s ≠ ⊤) : ∑ d : Fin 4, g d * s = (∑ d : Fin 4, g d) * s := by
  rw [Fin.sum_univ_four, Fin.sum_univ_four, EReal.right_distrib_of_nonneg_of_ne_top h0 h1, EReal.right_distrib_of_nonneg_of_ne_top h0 h1,
    EReal.right_distrib_of_nonneg_of_ne_top h0 h1]

/-! ## The precondition -/

theorem bits_inf : Ideal.ofBits .f32 0x7F800000#32 = ⊤ := by simp [Ideal.ofBits, Ideal.ieee]

/-- The side conditions of the two predicates. -/
theorem pre_kernel : Cert.Pre_nonnegative_scale_KernelIdeal.Facts := ⟨by decide⟩
theorem pre_reference : Cert.Pre_nonnegative_scale_ReferenceIdeal.Facts := ⟨by decide⟩

section
open Cert.KernelIdeal Cert.KernelIdeal.Ring

variable (m : (ℓ : Loc nD τ sig) → Buf (Elt Ideal) ℓ)

/-- What the precondition says of a device's scales. -/
theorem pre_means (h : Cert.Pre_KernelIdeal_nonnegative_scale_KernelIdeal (hPre_nonnegative_scale_KernelIdeal := pre_kernel) m) (c : Dev nD) :
    0 ≤ sxOf m c * swOf m c ∧ sxOf m c * swOf m c ≠ ⊤ := by
  have h1 : Ideal.cmp .oge (sxOf m c * swOf m c) (Ideal.ofBits .f32 0x00000000#32) = 1#1 := congrFun (h c).1 at1
  have h2 : Ideal.cmp .olt (sxOf m c * swOf m c) (Ideal.ofBits .f32 0x7F800000#32) = 1#1 := congrFun (h c).2 at1
  rw [Plain.bits_zero] at h1
  rw [bits_inf] at h2
  have ob : ∀ p : Prop, [Decidable p] → BitVec.ofBool (decide p) = 1#1 → p := fun p _ hp => by
    by_contra hn
    rw [decide_eq_false hn] at hp
    exact absurd hp (by decide)
  exact ⟨ob _ h1, (ob _ h2).ne⟩
end

/-! ## The two results -/

section
open Cert.KernelIdeal Cert.KernelIdeal.Ring Cert.ReferenceIdeal.Whole

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Place `k` of device `d`'s share of the contracted axis. -/
def along (d : Fin 4) (k : Fin 1024) : Fin 4096 := ⟨d.val * 1024 + k.val, by omega⟩

/-- The devices' inputs are their shares of the whole inputs. -/
structure Shares : Prop where
  x : ∀ (d : Fin 4) (r : Fin 4096) (k : Fin 1024), xOf m d (ix2 r k) = xAll m' 0 (ix2 r (along d k))
  w : ∀ (d : Fin 4) (k : Fin 1024) (r : Fin 8192), wOf m d (ix2 k r) = wAll m' 0 (ix2 (along d k) r)
  s : ∀ d : Fin 4, sxOf m d * swOf m d = sxAll m' 0 * swAll m' 0

/-- The devices' scaled sums add up to the scaled whole sum. -/
theorem sum_parts (h : Shares m m') (h0 : 0 ≤ sxAll m' 0 * swAll m' 0) (h1 : sxAll m' 0 * swAll m' 0 ≠ ⊤) (i : Cert.KernelIdeal.S4096x8192.Idx) :
    ∑ d : Fin 4, partAt m d i = prodAt m' 0 i := by
  have e : ∀ d : Fin 4, partAt m d i
      = (∑ k : Fin 1024, xAll m' 0 (ix2 (i 0) (along d k)) * wAll m' 0 (ix2 (along d k) (i 1))) * (sxAll m' 0 * swAll m' 0) := fun d => by
    unfold partAt
    rw [h.s d]
    exact congrArg (· * _) (Finset.sum_congr rfl fun k _ => congrArg₂ (· * ·) (h.x d (i 0) k) (h.w d k (i 1)))
  rw [Finset.sum_congr rfl fun d _ => e d, scale_sum _ _ h0 h1]
  unfold prodAt
  exact congrArg (· * _) (sum_shares fun k => xAll m' 0 (ix2 (i 0) k) * wAll m' 0 (ix2 k (i 1))).symm

/-- A device's result is its block of the reference's. -/
theorem result_block (h : Shares m m') (h0 : 0 ≤ sxAll m' 0 * swAll m' 0) (h1 : sxAll m' 0 * swAll m' 0 ≠ ⊤) (c : Fin 4) :
    (Cert.KernelIdeal.Gen.V3 m (outs m) c Cert.KernelIdeal.main_v11 : (⟨2, ![1024, 8192]⟩ : Shape).Idx → EReal)
      = Layout.block ⟨2, ![1024, 8192]⟩ ⟨2, ![4096, 8192]⟩ 0 4 c (prodAt m' 0) := by
  funext j
  have ht : Layout.Tiles ⟨2, ![1024, 8192]⟩ ⟨2, ![4096, 8192]⟩ 0 4 := by decide
  have hv := Layout.idx_rows_val ht c j
  have hj : (j 0).val < 1024 := (j 0).isLt
  refine (result_apply m c j (ht.idx c j) hv.1 hv.2).trans ?_
  refine (sums_own m c (ht.idx c j) ?_).trans (sum_parts m m' h h0 h1 _)
  rw [hv.1]
  show (c.val * 1024 + (j 0).val) / 1024 = c.val
  omega
end

/-- The claim that the kernel over the extended reals computes the reference. -/
theorem algebraic : Cert.algebraic_KernelIdeal_ReferenceIdeal_pre_nonnegative_scale_KernelIdeal (hKernelIdeal := Cert.KernelIdeal.Gen.facts)
    (hReferenceIdeal := Cert.ReferenceIdeal.Gen.facts) (hPre_nonnegative_scale_KernelIdeal := pre_kernel) := by
  intro m g m' g' hpre hin
  have hs : Shares m m' := by
    refine ⟨fun d r k => ?_, fun d k r => ?_, fun d => ?_⟩
    · refine (congrFun (hin d).1 (ix2 r k)).trans (congrArg (Cert.ReferenceIdeal.Whole.xAll m' 0) (Shape.idx_ext₂ ?_ ?_)) <;> rfl
    · refine (congrFun (hin d).2.1 (ix2 k r)).trans (congrArg (Cert.ReferenceIdeal.Whole.wAll m' 0) (Shape.idx_ext₂ ?_ ?_)) <;> rfl
    · exact congrArg₂ (· * ·) (congrFun (hin d).2.2.1 _) (congrFun (hin d).2.2.2 _)
  have hp := pre_means m hpre 0
  rw [hs.s 0] at hp
  refine ⟨Cert.ReferenceIdeal.Whole.prodAt m' 0, ?_, ?_⟩
  · exact (θ_run Cert.KernelIdeal.defs _ _).mono (fun _ h c => ⟨(h.1 c).1.trans (result_block m m' hs hp.1 hp.2 c), (h.1 c).2⟩)
      (Cert.KernelIdeal.Ring.run_main m g)
  · exact (θ_run Cert.ReferenceIdeal.defs _ _).mono (fun _ h => ⟨(h 0).1.trans (Cert.ReferenceIdeal.Whole.result_eq m' 0), (h 0).2⟩)
      (Cert.ReferenceIdeal.Value.run_blocks m' g')

end Cert.Proof.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Launch
public import proofs.«01_k».proof.Proof.KernelIdeal.Launch
public import proofs.«01_k».proof.Proof.Algebra
public import Idealize.ShloMosaic.Adequacy
public import Idealize.ShloMosaic.Init

@[expose] public section

noncomputable section

namespace Cert.Proof

open Idealize.ShloMosaic Idealize.SL.Sem

/-- The kernel as printed ends, leaves its arguments, and every counter at zero. -/
theorem kernel_frame : Cert.quiescent_Kernel (hKernel := Cert.Kernel.Gen.facts) := fun m g _ =>
  (θ_run Cert.Kernel.defs _ _).mono (fun _ h => ⟨fun c => (h.1 c).2, h.2⟩) (Cert.Kernel.Ring.run_main m g)

/-- So does the kernel over the extended reals. -/
theorem ideal_frame : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Ring.run_main m g)

/-- So does the reference. -/
theorem reference_frame : Cert.quiescent_ReferenceIdeal (hReferenceIdeal := Cert.ReferenceIdeal.Gen.facts) := fun m g _ =>
  Cert.ReferenceIdeal.Gen.frame m g

theorem claim : Cert.Claim := ⟨Cert.Kernel.Gen.facts, Cert.KernelIdeal.Gen.facts, Cert.ReferenceIdeal.Gen.facts,
  Algebra.pre_kernel, Algebra.pre_reference, kernel_frame, ideal_frame, fun m g _ => ideal_frame m g trivial, reference_frame,
  fun m g _ => reference_frame m g trivial, trivial, Algebra.algebraic⟩

end Cert.Proof

end
